-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_k" .f32 0x3D888889#32 ((1 / 15 : ℝ) : EReal)

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_well_posed : Cert.Pre_well_posed.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_pre_well_posed (hKernelIdeal := hKernelIdeal) (hReferenceIdeal := hReferenceIdeal) (hPre_well_posed := hPre_well_posed)
-- ==== Pre_well_posed.lean ====
abbrev S1024x16 : Shape := ⟨2, ![1024, 16]⟩
abbrev S100000x16 : Shape := ⟨2, ![100000, 16]⟩
abbrev S100000 : Shape := ⟨1, ![100000]⟩
abbrev S_ : Shape := ⟨0, ![]⟩
abbrev S1024 : Shape := ⟨1, ![1024]⟩
abbrev S1024x1 : Shape := ⟨2, ![1024, 1]⟩
abbrev S16x100000 : Shape := ⟨2, ![16, 100000]⟩
abbrev S1024x100000 : Shape := ⟨2, ![1024, 100000]⟩
abbrev S1x100000 : Shape := ⟨2, ![1, 100000]⟩

class Facts : Prop where
  reducesTo_S1024x16_S1024_d1 : S1024x16.ReducesTo [1] S1024
  h_S_ : 0 < S_.numel
  bcast_S1024_S1024x1_0 : S1024.BroadcastsInDim S1024x1 (![0] : Fin 1 → Fin S1024x1.rank)
  reducesTo_S100000x16_S100000_d1 : S100000x16.ReducesTo [1] S100000
  transposes_S100000x16_S16x100000_1_0 : S100000x16.Transposes [1, 0] S16x100000
  bcast_S_S1024x100000 : S_.BroadcastsInDim S1024x100000 (![] : Fin 0 → Fin S1024x100000.rank)
  bcast_S1024x1_S1024x100000_0_1 : S1024x1.BroadcastsInDim S1024x100000 (![0, 1] : Fin 2 → Fin S1024x100000.rank)
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  sliceFits_S1024x100000_S1024x16 : S1024x100000.Slices (fun _ => 0) S1024x16
  slices_S1024x16_S1024x1_0_14 : S1024x16.Slices ![0, 14] S1024x1
  shapeCasts_S1024x1_S1024 : S1024x1.ShapeCasts S1024
  slices_S1024x16_S1024x1_0_15 : S1024x16.Slices ![0, 15] S1024x1
  bcast_S_S1024x16 : S_.BroadcastsInDim S1024x16 (![] : Fin 0 → Fin S1024x16.rank)
  bcast_S_S100000x16 : S_.BroadcastsInDim S100000x16 (![] : Fin 0 → Fin S100000x16.rank)
  bcast_S_S100000 : S_.BroadcastsInDim S100000 (![] : Fin 0 → Fin S100000.rank)
  dot_S1024x16_S16x100000_S1024x100000_1_0_0_1_n_n_wf : DotDims.WF S1024x16 S16x100000 S1024x100000 [1] [0] [0] [1] [] []

variable [Facts]

def dot_S1024x16_S16x100000_S1024x100000_1_0_0_1_n_n : DotDims S1024x16 S16x100000 S1024x100000 where
  lhsContracting := [1]
  rhsContracting := [0]
  lhsNonContracting := [0]
  rhsNonContracting := [1]
  lhsBatch := []
  rhsBatch := []
  wf := dot_S1024x16_S16x100000_S1024x100000_1_0_0_1_n_n_wf
def fn_part1 {F : FTy → Type} [FloatOps F] (main_arg0 : FVec F S1024x16 .f32) (main_arg1 : FVec F S100000x16 .f32) (main_arg2 : IVec S100000 32) (main_v16 : FVec F S1024 .f32) (main_v18 : FVec F S1024 .f32) : IVec S1024 1 × IVec S1024x16 1 × IVec S100000x16 1 × IVec S100000 1 × IVec S100000 1 :=
  let main_v19 : IVec S1024 1 := cmpf .ogt main_v16 main_v18
  let main_v20 : FVec F S1024x16 .f32 := Host.absf main_arg0
  let main_cst_2 : FVec F S_ .f32 := constant S_ .f32 0x43A68000#32
  let main_v21 : FVec F S1024x16 .f32 := broadcastInDim S1024x16 ![] bcast_S_S1024x16 main_cst_2
  let main_v22 : IVec S1024x16 1 := cmpf .ole main_v20 main_v21
  let main_v23 : FVec F S100000x16 .f32 := Host.absf main_arg1
  let main_cst_3 : FVec F S_ .f32 := constant S_ .f32 0x43A68000#32
  let main_v24 : FVec F S100000x16 .f32 := broadcastInDim S100000x16 ![] bcast_S_S100000x16 main_cst_3
  let main_v25 : IVec S100000x16 1 := cmpf .ole main_v23 main_v24
  let main_c : IVec S_ 32 := constantI S_ 32 0#32
  let main_v26 : IVec S100000 32 := broadcastInDim S100000 ![] bcast_S_S100000 main_c
  let main_v27 : IVec S100000 1 := cmpi .sge main_arg2 main_v26
  let main_c_4 : IVec S_ 32 := constantI S_ 32 10#32
  let main_v28 : IVec S100000 32 := broadcastInDim S100000 ![] bcast_S_S100000 main_c_4
  let main_v29 : IVec S100000 1 := cmpi .slt main_arg2 main_v28
  (main_v19, main_v22, main_v25, main_v27, main_v29)

def fn {F : FTy → Type} [FloatOps F] (main_arg0 : FVec F S1024x16 .f32) (main_arg1 : FVec F S100000x16 .f32) (main_arg2 : IVec S100000 32) : IVec S1024 1 × IVec S1024x16 1 × IVec S100000x16 1 × IVec S100000 1 × IVec S100000 1 :=
  let main_v0 : FVec F S1024x16 .f32 := mulf main_arg0 main_arg0
  let main_cst : FVec F S_ .f32 := constant S_ .f32 0x00000000#32
  let main_v1 : FVec F S1024 .f32 := (fun x v => Host.reduceAdd x v reducesTo_S1024x16_S1024_d1 h_S_) main_v0 main_cst
  let main_v2 : FVec F S1024x1 .f32 := broadcastInDim S1024x1 ![0] bcast_S1024_S1024x1_0 main_v1
  let main_v3 : FVec F S100000x16 .f32 := mulf main_arg1 main_arg1
  let main_cst_0 : FVec F S_ .f32 := constant S_ .f32 0x00000000#32
  let main_v4 : FVec F S100000 .f32 := (fun x v => Host.reduceAdd x v reducesTo_S100000x16_S100000_d1 h_S_) main_v3 main_cst_0
  let main_v5 : FVec F S16x100000 .f32 := (transpose S16x100000 [1, 0] · transposes_S100000x16_S16x100000_1_0) main_arg1
  let main_v6 : FVec F S1024x100000 .f32 := (fun l r => Host.dotGeneral dot_S1024x16_S16x100000_S1024x100000_1_0_0_1_n_n none l r) main_arg0 main_v5
  let main_cst_1 : FVec F S_ .f32 := constant S_ .f32 0x40000000#32
  let main_v7 : FVec F S1024x100000 .f32 := broadcastInDim S1024x100000 ![] bcast_S_S1024x100000 main_cst_1
  let main_v8 : FVec F S1024x100000 .f32 := mulf main_v7 main_v6
  let main_v9 : FVec F S1024x100000 .f32 := broadcastInDim S1024x100000 ![0, 1] bcast_S1024x1_S1024x100000_0_1 main_v2
  let main_v10 : FVec F S1024x100000 .f32 := subf main_v9 main_v8
  let main_v11 : FVec F S1x100000 .f32 := broadcastInDim S1x100000 ![1] bcast_S100000_S1x100000_1 main_v4
  let main_v12 : FVec F S1024x100000 .f32 := broadcastInDim S1024x100000 ![0, 1] bcast_S1x100000_S1024x100000_0_1 main_v11
  let main_v13 : FVec F S1024x100000 .f32 := addf main_v10 main_v12
  let main_v14 : FVec F S1024x100000 .f32 := Host.negf main_v13
  let main_values : FVec F S1024x16 .f32 := (fun x => (Host.topK S1024x16 1 (FloatOps.cmpfTotal .gt) x sliceFits_S1024x100000_S1024x16).1) main_v14
  let main_indices : IVec S1024x16 32 := (fun x => (Host.topK S1024x16 1 (FloatOps.cmpfTotal .gt) x sliceFits_S1024x100000_S1024x16).2) main_v14
  let main_v15 : FVec F S1024x1 .f32 := (extractStridedSlice S1024x1 ![0, 14] · slices_S1024x16_S1024x1_0_14) main_values
  let main_v16 : FVec F S1024 .f32 := shapeCast S1024 main_v15 shapeCasts_S1024x1_S1024
  let main_v17 : FVec F S1024x1 .f32 := (extractStridedSlice S1024x1 ![0, 15] · slices_S1024x16_S1024x1_0_15) main_values
  let main_v18 : FVec F S1024 .f32 := shapeCast S1024 main_v17 shapeCasts_S1024x1_S1024
  fn_part1 (F := F) main_arg0 main_arg1 main_arg2 main_v16 main_v18
-- ==== Kernel.lean ====
abbrev S1024x16 : Shape := ⟨2, ![1024, 16]⟩
abbrev S100000x16 : Shape := ⟨2, ![100000, 16]⟩
abbrev S100000 : Shape := ⟨1, ![100000]⟩
abbrev S_ : Shape := ⟨0, ![]⟩
abbrev S100352x16 : Shape := ⟨2, ![100352, 16]⟩
abbrev S512 : Shape := ⟨1, ![512]⟩
abbrev S1x512 : Shape := ⟨2, ![1, 512]⟩
abbrev S196x512 : Shape := ⟨2, ![196, 512]⟩
abbrev S100352 : Shape := ⟨1, ![100352]⟩
abbrev S196x1x512 : Shape := ⟨3, ![196, 1, 512]⟩
abbrev S1024x1 : Shape := ⟨2, ![1024, 1]⟩
abbrev S512x16 : Shape := ⟨2, ![512, 16]⟩
abbrev S1x1x512 : Shape := ⟨3, ![1, 1, 512]⟩
abbrev S128x512 : Shape := ⟨2, ![128, 512]⟩
abbrev S128x15 : Shape := ⟨2, ![128, 15]⟩
abbrev S128x1 : Shape := ⟨2, ![128, 1]⟩
abbrev S128x16 : Shape := ⟨2, ![128, 16]⟩
abbrev S128 : Shape := ⟨1, ![128]⟩
abbrev S128x6 : Shape := ⟨2, ![128, 6]⟩
abbrev S1024 : Shape := ⟨1, ![1024]⟩
abbrev S1024x10 : Shape := ⟨2, ![1024, 10]⟩

abbrev nBuf : Space → Nat
  | .hbm => 23
  | .vmem => 10
  | .smem => 0
  | _ => 0

abbrev bufTy : (tb : Table) → Fin (tcTables nBuf tb) → BufTy
  | .hbm, ⟨0, _⟩ => ⟨S1024x16, .f32⟩
  | .hbm, ⟨1, _⟩ => ⟨S100000x16, .f32⟩
  | .hbm, ⟨2, _⟩ => ⟨S100000, .i32⟩
  | .hbm, ⟨3, _⟩ => ⟨S_, .f32⟩
  | .hbm, ⟨4, _⟩ => ⟨S_, .f32⟩
  | .hbm, ⟨5, _⟩ => ⟨S100352x16, .f32⟩
  | .hbm, ⟨6, _⟩ => ⟨S512, .i32⟩
  | .hbm, ⟨7, _⟩ => ⟨S1x512, .i32⟩
  | .hbm, ⟨8, _⟩ => ⟨S196x512, .i32⟩
  | .hbm, ⟨9, _⟩ => ⟨S100352, .i32⟩
  | .hbm, ⟨10, _⟩ => ⟨S_, .i32⟩
  | .hbm, ⟨11, _⟩ => ⟨S100352, .i32⟩
  | .hbm, ⟨12, _⟩ => ⟨S100352, .i32⟩
  | .hbm, ⟨13, _⟩ => ⟨S_, .i32⟩
  | .hbm, ⟨14, _⟩ => ⟨S_, .i32⟩
  | .hbm, ⟨15, _⟩ => ⟨S100352, .i32⟩
  | .hbm, ⟨16, _⟩ => ⟨S100352, .i32⟩
  | .hbm, ⟨17, _⟩ => ⟨S100352, .f32⟩
  | .hbm, ⟨18, _⟩ => ⟨S196x1x512, .f32⟩
  | .hbm, ⟨19, _⟩ => ⟨S1024x16, .f32⟩
  | .hbm, ⟨20, _⟩ => ⟨S1024x1, .i32⟩
  | .hbm, ⟨21, _⟩ => ⟨S1024, .i32⟩
  | .hbm, ⟨22, _⟩ => ⟨S1024x10, .f32⟩
  | .local _ .vmem, ⟨0, _⟩ => ⟨S1024x16, .f32⟩
  | .local _ .vmem, ⟨1, _⟩ => ⟨S512x16, .f32⟩
  | .local _ .vmem, ⟨2, _⟩ => ⟨S512x16, .f32⟩
  | .local _ .vmem, ⟨3, _⟩ => ⟨S1x1x512, .f32⟩
  | .local _ .vmem, ⟨4, _⟩ => ⟨S1x1x512, .f32⟩
  | .local _ .vmem, ⟨5, _⟩ => ⟨S1024x16, .f32⟩
  | .local _ .vmem, ⟨6, _⟩ => ⟨S1024x1, .i32⟩
  | .local _ .vmem, ⟨7, _⟩ => ⟨S1024x16, .f32⟩
  | .local _ .vmem, ⟨8, _⟩ => ⟨S1024x16, .f32⟩
  | .local _ .vmem, ⟨9, _⟩ => ⟨S128x512, .f32⟩
  | _, _ => ⟨S1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨2, ![196, 8], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (i : grid0.Coords) : Fin 2 → Nat :=
  let arg1 : BitVec 32 := BitVec.ofNat 32 (i 1).val
  let c128_i32 : BitVec 32 := 128#32
  let v0 : BitVec 32 := Scalar.muli arg1 c128_i32
  let v43 : Index := Scalar.indexCast v0
  let c0_19 : Index := 0#32
  ![v43.toNat, 0]
def k0_off2 (i : grid0.Coords) : Fin 2 → Nat :=
  let arg1 : BitVec 32 := BitVec.ofNat 32 (i 1).val
  let c128_i32 : BitVec 32 := 128#32
  let v0 : BitVec 32 := Scalar.muli arg1 c128_i32
  let v4 : Index := Scalar.indexCast v0
  let c0 : Index := 0#32
  ![v4.toNat, 0]
@[reducible] def k0_t1_loop : Scf.Loop 32 :=
  let c0_i32_13 : BitVec 32 := 0#32
  let c15_i32 : BitVec 32 := 15#32
  let v27 : BitVec 32 := Scalar.addi c0_i32_13 c15_i32
  let c1_i32 : BitVec 32 := 1#32
  ⟨c0_i32_13, v27, c1_i32⟩
def k0_cond2 (i : grid0.Coords) : BitVec 1 :=
  let arg0 : BitVec 32 := BitVec.ofNat 32 (i 0).val
  let c195_i32 : BitVec 32 := 195#32
  let v37 : BitVec 1 := Scalar.cmpi .eq arg0 c195_i32
  let v38 : BitVec 32 := Scalar.extui v37
  let c0_i32_16 : BitVec 32 := 0#32
  let v39 : BitVec 1 := Scalar.cmpi .ne v38 c0_i32_16
  v39

def k0_off3 (i : grid0.Coords) : Fin 2 → Nat :=
  let arg1 : BitVec 32 := BitVec.ofNat 32 (i 1).val
  let c128_i32 : BitVec 32 := 128#32
  let v0 : BitVec 32 := Scalar.muli arg1 c128_i32
  let v59 : Index := Scalar.indexCast v0
  let c0_25 : Index := 0#32
  ![v59.toNat, 0]
def k0_off4 (i : grid0.Coords) : Fin 2 → Nat :=
  let arg1 : BitVec 32 := BitVec.ofNat 32 (i 1).val
  let c128_i32 : BitVec 32 := 128#32
  let v0 : BitVec 32 := Scalar.muli arg1 c128_i32
  let v74 : Index := Scalar.indexCast v0
  let c1 : Index := 1#32
  ![v74.toNat, 1]
def k0_off5 (i : grid0.Coords) : Fin 2 → Nat :=
  let arg1 : BitVec 32 := BitVec.ofNat 32 (i 1).val
  let c128_i32 : BitVec 32 := 128#32
  let v0 : BitVec 32 := Scalar.muli arg1 c128_i32
  let v89 : Index := Scalar.indexCast v0
  let c2 : Index := 2#32
  ![v89.toNat, 2]
def k0_off6 (i : grid0.Coords) : Fin 2 → Nat :=
  let arg1 : BitVec 32 := BitVec.ofNat 32 (i 1).val
  let c128_i32 : BitVec 32 := 128#32
  let v0 : BitVec 32 := Scalar.muli arg1 c128_i32
  let v104 : Index := Scalar.indexCast v0
  let c3 : Index := 3#32
  ![v104.toNat, 3]
def k0_off7 (i : grid0.Coords) : Fin 2 → Nat :=
  let arg1 : BitVec 32 := BitVec.ofNat 32 (i 1).val
  let c128_i32 : BitVec 32 := 128#32
  let v0 : BitVec 32 := Scalar.muli arg1 c128_i32
  let v119 : Index := Scalar.indexCast v0
  let c4 : Index := 4#32
  ![v119.toNat, 4]
def k0_off8 (i : grid0.Coords) : Fin 2 → Nat :=
  let arg1 : BitVec 32 := BitVec.ofNat 32 (i 1).val
  let c128_i32 : BitVec 32 := 128#32
  let v0 : BitVec 32 := Scalar.muli arg1 c128_i32
  let v134 : Index := Scalar.indexCast v0
  let c5 : Index := 5#32
  ![v134.toNat, 5]
def k0_off9 (i : grid0.Coords) : Fin 2 → Nat :=
  let arg1 : BitVec 32 := BitVec.ofNat 32 (i 1).val
  let c128_i32 : BitVec 32 := 128#32
  let v0 : BitVec 32 := Scalar.muli arg1 c128_i32
  let v149 : Index := Scalar.indexCast v0
  let c6 : Index := 6#32
  ![v149.toNat, 6]
def k0_off10 (i : grid0.Coords) : Fin 2 → Nat :=
  let arg1 : BitVec 32 := BitVec.ofNat 32 (i 1).val
  let c128_i32 : BitVec 32 := 128#32
  let v0 : BitVec 32 := Scalar.muli arg1 c128_i32
  let v164 : Index := Scalar.indexCast v0
  let c7 : Index := 7#32
  ![v164.toNat, 7]
def k0_off11 (i : grid0.Coords) : Fin 2 → Nat :=
  let arg1 : BitVec 32 := BitVec.ofNat 32 (i 1).val
  let c128_i32 : BitVec 32 := 128#32
  let v0 : BitVec 32 := Scalar.muli arg1 c128_i32
  let v179 : Index := Scalar.indexCast v0
  let c8 : Index := 8#32
  ![v179.toNat, 8]
def k0_off12 (i : grid0.Coords) : Fin 2 → Nat :=
  let arg1 : BitVec 32 := BitVec.ofNat 32 (i 1).val
  let c128_i32 : BitVec 32 := 128#32
  let v0 : BitVec 32 := Scalar.muli arg1 c128_i32
  let v194 : Index := Scalar.indexCast v0
  let c9 : Index := 9#32
  ![v194.toNat, 9]
def k0_off13 (i : grid0.Coords) : Fin 2 → Nat :=
  let arg1 : BitVec 32 := BitVec.ofNat 32 (i 1).val
  let c128_i32 : BitVec 32 := 128#32
  let v0 : BitVec 32 := Scalar.muli arg1 c128_i32
  let v200 : Index := Scalar.indexCast v0
  let c10 : Index := 10#32
  ![v200.toNat, 10]
def k0_off14 (i : grid0.Coords) : Fin 2 → Nat :=
  let arg1 : BitVec 32 := BitVec.ofNat 32 (i 1).val
  let c128_i32 : BitVec 32 := 128#32
  let v0 : BitVec 32 := Scalar.muli arg1 c128_i32
  let v203 : Index := Scalar.indexCast v0
  let c0_64 : Index := 0#32
  ![v203.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== KernelIdeal.lean ====
variable {F : FTy → Type} [FloatOps F] [Named F]
def κ : String → Option EReal := fun
  | "inv_k" => some ((1 / 15 : ℝ) : EReal)
  | _ => none
-- ==== ReferenceIdeal.lean ====
abbrev S1024x16 : Shape := ⟨2, ![1024, 16]⟩
abbrev S100000x16 : Shape := ⟨2, ![100000, 16]⟩
abbrev S100000 : Shape := ⟨1, ![100000]⟩
abbrev S_ : Shape := ⟨0, ![]⟩
abbrev S1024 : Shape := ⟨1, ![1024]⟩
abbrev S1024x1 : Shape := ⟨2, ![1024, 1]⟩
abbrev S16x100000 : Shape := ⟨2, ![16, 100000]⟩
abbrev S1024x100000 : Shape := ⟨2, ![1024, 100000]⟩
abbrev S1x100000 : Shape := ⟨2, ![1, 100000]⟩
abbrev S1024x15 : Shape := ⟨2, ![1024, 15]⟩
abbrev S1024x15x1 : Shape := ⟨3, ![1024, 15, 1]⟩
abbrev S1 : Shape := ⟨1, ![1]⟩
abbrev S1x1x1 : Shape := ⟨3, ![1, 1, 1]⟩
abbrev S1x1x10 : Shape := ⟨3, ![1, 1, 10]⟩
abbrev S1024x15x10 : Shape := ⟨3, ![1024, 15, 10]⟩
abbrev S1024x10 : Shape := ⟨2, ![1024, 10]⟩

abbrev nBuf : Space → Nat
  | .hbm => 61
  | .vmem => 0
  | .smem => 0
  | _ => 0

abbrev bufTy : (tb : Table) → Fin (tcTables nBuf tb) → BufTy
  | .hbm, ⟨0, _⟩ => ⟨S1024x16, .f32⟩
  | .hbm, ⟨1, _⟩ => ⟨S100000x16, .f32⟩
  | .hbm, ⟨2, _⟩ => ⟨S100000, .i32⟩
  | .hbm, ⟨3, _⟩ => ⟨S1024x16, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S100000x16, .f32⟩
  | .hbm, ⟨8, _⟩ => ⟨S_, .f32⟩
  | .hbm, ⟨9, _⟩ => ⟨S100000, .f32⟩
  | .hbm, ⟨10, _⟩ => ⟨S16x100000, .f32⟩
  | .hbm, ⟨11, _⟩ => ⟨S1024x100000, .f32⟩
  | .hbm, ⟨12, _⟩ => ⟨S_, .f32⟩
  | .hbm, ⟨13, _⟩ => ⟨S1024x100000, .f32⟩
  | .hbm, ⟨14, _⟩ => ⟨S1024x100000, .f32⟩
  | .hbm, ⟨15, _⟩ => ⟨S1024x100000, .f32⟩
  | .hbm, ⟨16, _⟩ => ⟨S1024x100000, .f32⟩
  | .hbm, ⟨17, _⟩ => ⟨S1x100000, .f32⟩
  | .hbm, ⟨18, _⟩ => ⟨S1024x100000, .f32⟩
  | .hbm, ⟨19, _⟩ => ⟨S1024x100000, .f32⟩
  | .hbm, ⟨20, _⟩ => ⟨S1024x100000, .f32⟩
  | .hbm, ⟨21, _⟩ => ⟨S1024x15, .f32⟩
  | .hbm, ⟨22, _⟩ => ⟨S1024x15, .i32⟩
  | .hbm, ⟨23, _⟩ => ⟨S_, .i32⟩
  | .hbm, ⟨24, _⟩ => ⟨S1024x15, .i32⟩
  | .hbm, ⟨25, _⟩ => ⟨S1024x15, .i1⟩
  | .hbm, ⟨26, _⟩ => ⟨S_, .i32⟩
  | .hbm, ⟨27, _⟩ => ⟨S1024x15, .i32⟩
  | .hbm, ⟨28, _⟩ => ⟨S1024x15, .i32⟩
  | .hbm, ⟨29, _⟩ => ⟨S1024x15, .i32⟩
  | .hbm, ⟨30, _⟩ => ⟨S1024x15x1, .i32⟩
  | .hbm, ⟨31, _⟩ => ⟨S1, .i32⟩
  | .hbm, ⟨32, _⟩ => ⟨S_, .i32⟩
  | .hbm, ⟨33, _⟩ => ⟨S1024x15x1, .i32⟩
  | .hbm, ⟨34, _⟩ => ⟨S1024x15x1, .i1⟩
  | .hbm, ⟨35, _⟩ => ⟨S1x1x1, .i32⟩
  | .hbm, ⟨36, _⟩ => ⟨S1024x15x1, .i32⟩
  | .hbm, ⟨37, _⟩ => ⟨S1024x15x1, .i1⟩
  | .hbm, ⟨38, _⟩ => ⟨S1024x15x1, .i1⟩
  | .hbm, ⟨39, _⟩ => ⟨S_, .i1⟩
  | .hbm, ⟨40, _⟩ => ⟨S1024x15, .i1⟩
  | .hbm, ⟨41, _⟩ => ⟨S1024x15, .i32⟩
  | .hbm, ⟨42, _⟩ => ⟨S_, .i32⟩
  | .hbm, ⟨43, _⟩ => ⟨S1024x15, .i32⟩
  | .hbm, ⟨44, _⟩ => ⟨S1024x15, .i32⟩
  | .hbm, ⟨45, _⟩ => ⟨S1024x15x1, .i32⟩
  | .hbm, ⟨46, _⟩ => ⟨S1x1x10, .i32⟩
  | .hbm, ⟨47, _⟩ => ⟨S1024x15x10, .i32⟩
  | .hbm, ⟨48, _⟩ => ⟨S1024x15x10, .i32⟩
  | .hbm, ⟨49, _⟩ => ⟨S1024x15x10, .i1⟩
  | .hbm, ⟨50, _⟩ => ⟨S1024x15x10, .f32⟩
  | .hbm, ⟨51, _⟩ => ⟨S_, .f32⟩
  | .hbm, ⟨52, _⟩ => ⟨S1024x10, .f32⟩
  | .hbm, ⟨53, _⟩ => ⟨S_, .f32⟩
  | .hbm, ⟨54, _⟩ => ⟨S1024x10, .f32⟩
  | .hbm, ⟨55, _⟩ => ⟨S1024x10, .f32⟩
  | .hbm, ⟨56, _⟩ => ⟨S1024x10, .i32⟩
  | .hbm, ⟨57, _⟩ => ⟨S_, .f32⟩
  | .hbm, ⟨58, _⟩ => ⟨S_, .i32⟩
  | .hbm, ⟨59, _⟩ => ⟨S1024, .f32⟩
  | .hbm, ⟨60, _⟩ => ⟨S1024, .i32⟩
  | _, _ => ⟨S1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_values : Ref sig .tc := ⟨.hbm, 21, rfl⟩
abbrev main_indices : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_c_4 : Ref sig .tc := ⟨.hbm, 42, rfl⟩
abbrev main_call0_v14 : Ref sig .tc := ⟨.hbm, 43, rfl⟩
abbrev main_v15 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v16 : Ref sig .tc := ⟨.hbm, 50, rfl⟩
abbrev main_cst_2 : Ref sig .tc := ⟨.hbm, 51, rfl⟩
abbrev main_v17 : Ref sig .tc := ⟨.hbm, 52, rfl⟩
abbrev main_cst_3 : Ref sig .tc := ⟨.hbm, 53, rfl⟩
abbrev main_v18 : Ref sig .tc := ⟨.hbm, 54, rfl⟩
abbrev main_v19 : Ref sig .tc := ⟨.hbm, 55, rfl⟩
abbrev main_call2_v0 : Ref sig .tc := ⟨.hbm, 56, rfl⟩
abbrev main_call2_cst : Ref sig .tc := ⟨.hbm, 57, rfl⟩
abbrev main_call2_c : Ref sig .tc := ⟨.hbm, 58, rfl⟩
abbrev main_call2_v1_0 : Ref sig .tc := ⟨.hbm, 59, rfl⟩
abbrev main_v20 : Ref sig .tc := ⟨.hbm, 60, rfl⟩

abbrev nD : Nat := 1
abbrev τ : Topo := Topo.v7x

variable {F : FTy → Type} [FloatOps F]
-- ==== Proof.KernelIdeal.RunA.lean ====
/- The body of the kernel's launch, run once for each of the cases its two conditionals distinguish. -/
module

public import proofs.«01_k».proof.Proof.Gen.KernelIdeal.Frame
public import proofs.«01_k».proof.Proof.Gen.KernelIdeal.Loops

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-- The first conditional: the block axis stands at 0. -/
abbrev atFirst (i : grid0.Coords) : Prop :=
  (Scalar.cmpi .ne (Scalar.extui (Scalar.cmpi .eq (BitVec.ofNat 32 (i 0).val) 0#32)) 0#32 : BitVec 1) = 1#1

/-- The second conditional: the block axis stands at its last position. -/
abbrev atLast (i : grid0.Coords) : Prop := k0_cond2 i = 1#1

set_option maxHeartbeats 2000000 in
/-- The body at the first block: it resets its rows of both scratches, then visits the block; the outputs' memrefs are untouched. -/
noncomputable def runA (c : Dev nD) (i : grid0.Coords) (arg2 : Memref sig .tc .vmem S1024x16 .f32) (harg2 : arg2.IsWhole) (arg3 : Memref sig .tc .vmem S512x16 .f32) (harg3 : arg3.IsWhole) (arg4 : Memref sig .tc .vmem S1x1x512 .f32) (harg4 : arg4.IsWhole) (arg5 : Memref sig .tc .vmem S1024x16 .f32) (harg5 : arg5.IsWhole) (arg6 : Memref sig .tc .vmem S1024x1 .i32) (harg6 : arg6.IsWhole) (arg7 : Memref sig .tc .vmem S1024x16 .f32) (harg7 : arg7.IsWhole) (arg8 : Memref sig .tc .vmem S1024x16 .f32) (harg8 : arg8.IsWhole) (arg9 : Memref sig .tc .vmem S128x512 .f32) (harg9 : arg9.IsWhole)
    (hc0 : atFirst i) (hc1 : ¬atLast i)
    (x0 : Vec F S1024x16 .f32) (x1 : Vec F S512x16 .f32) (x2 : Vec F S1x1x512 .f32) (x3 : Vec F S1024x16 .f32) (x4 : Vec F S1024x1 .i32)
    (xs0 xs1 : Vec F S1024x16 .f32) :
    Σ' (LS0 : List (View.Piece (Elt F) S1024x16 .f32)), { LS1 : List (View.Piece (Elt F) S1024x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare xs0 ∗ owns (c : Thread nD τ) arg8 fullShare xs1 ∗ (∃ d, owns (c : Thread nD τ) arg9 fullShare d)
            ∗ (iprop(owns (c : Thread nD τ) arg2 fullShare x0 ∗ owns (c : Thread nD τ) arg3 fullShare x1 ∗ owns (c : Thread nD τ) arg4 fullShare x2
              ∗ owns (c : Thread nD τ) arg5 fullShare x3 ∗ owns (c : Thread nD τ) arg6 fullShare x4
              ∗ (arg7.view.loc (c : Thread nD τ) ↦[arg7.view.set]{fullShare} arg7.view.writes (Elt F) (harg7.unread xs0) LS0)
              ∗ (arg8.view.loc (c : Thread nD τ) ↦[arg8.view.set]{fullShare} arg8.view.writes (Elt F) (harg8.unread xs1) LS1)
              ∗ (∃ f, arg9.view.loc (c : Thread nD τ) ↦[arg9.view.set]{fullShare} f)) -∗ K ⟨⟩))
          ⊢ wp frame (wpE (defs₀ (F := F)) Variants.none c none) E (cc0__knn_block_kernel i arg2 harg2 arg3 harg3 arg4 harg4 arg5 harg5 arg6 harg6 arg7 harg7 arg8 harg8 arg9 harg9) K } := by
  refine ⟨?_, ?_, fun E K => ?run⟩
  case run =>
    simp only [cc0__knn_block_kernel_eq_skeleton]; unfold cc0__knn_block_kernel_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hfs0; obtain rfl := harg8.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexact HS0
    isplitl [HS1]; · iexact HS1
    iexists _; iexact HS2

end Cert.KernelIdeal.Run

end
-- ==== Proof.KernelIdeal.RunB.lean ====
/- The body of the kernel's launch, run once for each of the cases its two conditionals distinguish. -/
module

public import proofs.«01_k».proof.Proof.KernelIdeal.RunA

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

set_option maxHeartbeats 2000000 in
/-- The body at a middle block: it visits the block; the outputs' memrefs are untouched. -/
noncomputable def runB (c : Dev nD) (i : grid0.Coords) (arg2 : Memref sig .tc .vmem S1024x16 .f32) (harg2 : arg2.IsWhole) (arg3 : Memref sig .tc .vmem S512x16 .f32) (harg3 : arg3.IsWhole) (arg4 : Memref sig .tc .vmem S1x1x512 .f32) (harg4 : arg4.IsWhole) (arg5 : Memref sig .tc .vmem S1024x16 .f32) (harg5 : arg5.IsWhole) (arg6 : Memref sig .tc .vmem S1024x1 .i32) (harg6 : arg6.IsWhole) (arg7 : Memref sig .tc .vmem S1024x16 .f32) (harg7 : arg7.IsWhole) (arg8 : Memref sig .tc .vmem S1024x16 .f32) (harg8 : arg8.IsWhole) (arg9 : Memref sig .tc .vmem S128x512 .f32) (harg9 : arg9.IsWhole)
    (hc0 : ¬atFirst i) (hc1 : ¬atLast i)
    (x0 : Vec F S1024x16 .f32) (x1 : Vec F S512x16 .f32) (x2 : Vec F S1x1x512 .f32) (x3 : Vec F S1024x16 .f32) (x4 : Vec F S1024x1 .i32)
    (xs0 xs1 : Vec F S1024x16 .f32) :
    Σ' (LS0 : List (View.Piece (Elt F) S1024x16 .f32)), { LS1 : List (View.Piece (Elt F) S1024x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare xs0 ∗ owns (c : Thread nD τ) arg8 fullShare xs1 ∗ (∃ d, owns (c : Thread nD τ) arg9 fullShare d)
            ∗ (iprop(owns (c : Thread nD τ) arg2 fullShare x0 ∗ owns (c : Thread nD τ) arg3 fullShare x1 ∗ owns (c : Thread nD τ) arg4 fullShare x2
              ∗ owns (c : Thread nD τ) arg5 fullShare x3 ∗ owns (c : Thread nD τ) arg6 fullShare x4
              ∗ (arg7.view.loc (c : Thread nD τ) ↦[arg7.view.set]{fullShare} arg7.view.writes (Elt F) (harg7.unread xs0) LS0)
              ∗ (arg8.view.loc (c : Thread nD τ) ↦[arg8.view.set]{fullShare} arg8.view.writes (Elt F) (harg8.unread xs1) LS1)
              ∗ (∃ f, arg9.view.loc (c : Thread nD τ) ↦[arg9.view.set]{fullShare} f)) -∗ K ⟨⟩))
          ⊢ wp frame (wpE (defs₀ (F := F)) Variants.none c none) E (cc0__knn_block_kernel i arg2 harg2 arg3 harg3 arg4 harg4 arg5 harg5 arg6 harg6 arg7 harg7 arg8 harg8 arg9 harg9) K } := by
  refine ⟨?_, ?_, fun E K => ?run⟩
  case run =>
    simp only [cc0__knn_block_kernel_eq_skeleton]; unfold cc0__knn_block_kernel_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hfs0; obtain rfl := harg8.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexact HS0
    isplitl [HS1]; · iexact HS1
    iexists _; iexact HS2

end Cert.KernelIdeal.Run

end
-- ==== Proof.KernelIdeal.RunC.lean ====
/- The body of the kernel's launch, run once for each of the cases its two conditionals distinguish. -/
module

public import proofs.«01_k».proof.Proof.KernelIdeal.RunB

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

set_option maxHeartbeats 2000000 in
/-- The body at the last block: it visits the block, then stores its rows of both outputs. -/
noncomputable def runC (c : Dev nD) (i : grid0.Coords) (arg2 : Memref sig .tc .vmem S1024x16 .f32) (harg2 : arg2.IsWhole) (arg3 : Memref sig .tc .vmem S512x16 .f32) (harg3 : arg3.IsWhole) (arg4 : Memref sig .tc .vmem S1x1x512 .f32) (harg4 : arg4.IsWhole) (arg5 : Memref sig .tc .vmem S1024x16 .f32) (harg5 : arg5.IsWhole) (arg6 : Memref sig .tc .vmem S1024x1 .i32) (harg6 : arg6.IsWhole) (arg7 : Memref sig .tc .vmem S1024x16 .f32) (harg7 : arg7.IsWhole) (arg8 : Memref sig .tc .vmem S1024x16 .f32) (harg8 : arg8.IsWhole) (arg9 : Memref sig .tc .vmem S128x512 .f32) (harg9 : arg9.IsWhole)
    (hc0 : ¬atFirst i) (hc1 : atLast i)
    (x0 : Vec F S1024x16 .f32) (x1 : Vec F S512x16 .f32) (x2 : Vec F S1x1x512 .f32) (x3 : Vec F S1024x16 .f32) (x4 : Vec F S1024x1 .i32)
    (xs0 xs1 : Vec F S1024x16 .f32) :
    Σ' (L3 : List (View.Piece (Elt F) S1024x16 .f32)), Σ' (L4 : List (View.Piece (Elt F) S1024x1 .i32)), Σ' (LS0 : List (View.Piece (Elt F) S1024x16 .f32)), { LS1 : List (View.Piece (Elt F) S1024x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare xs0 ∗ owns (c : Thread nD τ) arg8 fullShare xs1 ∗ (∃ d, owns (c : Thread nD τ) arg9 fullShare d)
            ∗ (iprop(owns (c : Thread nD τ) arg2 fullShare x0 ∗ owns (c : Thread nD τ) arg3 fullShare x1 ∗ owns (c : Thread nD τ) arg4 fullShare x2
              ∗ (arg5.view.loc (c : Thread nD τ) ↦[arg5.view.set]{fullShare} arg5.view.writes (Elt F) (harg5.unread x3) L3) ∗ (arg6.view.loc (c : Thread nD τ) ↦[arg6.view.set]{fullShare} arg6.view.writes (Elt F) (harg6.unread x4) L4)
              ∗ (arg7.view.loc (c : Thread nD τ) ↦[arg7.view.set]{fullShare} arg7.view.writes (Elt F) (harg7.unread xs0) LS0)
              ∗ (arg8.view.loc (c : Thread nD τ) ↦[arg8.view.set]{fullShare} arg8.view.writes (Elt F) (harg8.unread xs1) LS1)
              ∗ (∃ f, arg9.view.loc (c : Thread nD τ) ↦[arg9.view.set]{fullShare} f)) -∗ K ⟨⟩))
          ⊢ wp frame (wpE (defs₀ (F := F)) Variants.none c none) E (cc0__knn_block_kernel i arg2 harg2 arg3 harg3 arg4 harg4 arg5 harg5 arg6 harg6 arg7 harg7 arg8 harg8 arg9 harg9) K } := by
  refine ⟨?_, ?_, ?_, ?_, fun E K => ?run⟩
  case run =>
    simp only [cc0__knn_block_kernel_eq_skeleton]; unfold cc0__knn_block_kernel_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hfs0; obtain rfl := harg8.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexact H3
    isplitl [H4]; · iexact H4
    isplitl [HS0]; · iexact HS0
    isplitl [HS1]; · iexact HS1
    iexists _; iexact HS2

end Cert.KernelIdeal.Run

end
-- ==== Proof.KernelIdeal.Base.lean ====
module

public import proofs.«01_k».proof.Proof.KernelIdeal.RunC

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! The grid point's coordinates, which case of the body a point is in, the memrefs the body is called with. -/

/-- Point `t` works on training block `t / 8`. -/
theorem coord0 (t : Fin cfg0.N) : ((grid0.coords t) 0).val = t.val / 8 := by
  have ht : t.val < 1568 := Nat.lt_of_lt_of_eq t.isLt N_0
  have e0 : (grid0.coords t 0).val = t.val / 8 % 196 := Pipeline.Grid.coords_val t 0 (by decide) rfl
  rw [e0]; omega

/-- Point `t` works on query tile `t % 8`. -/
theorem coord1 (t : Fin cfg0.N) : ((grid0.coords t) 1).val = t.val % 8 := by
  have e1 : (grid0.coords t 1).val = t.val / 1 % 8 := Pipeline.Grid.coords_val t 1 (by decide) rfl
  rw [e1, Nat.div_one]

/-- The reset happens at the first eight points. -/
theorem atFirst_iff (t : Fin cfg0.N) : atFirst (grid0.coords t) ↔ t.val / 8 = 0 := by
  have ht : t.val < 1568 := Nat.lt_of_lt_of_eq t.isLt N_0
  have e0 := coord0 t
  simp only [atFirst, e0]
  word_cmp

/-- The outputs are stored at the last eight points. -/
theorem atLast_iff (t : Fin cfg0.N) : atLast (grid0.coords t) ↔ t.val / 8 = 195 := by
  have ht : t.val < 1568 := Nat.lt_of_lt_of_eq t.isLt N_0
  have e0 := coord0 t
  simp only [atLast, k0_cond2, e0]
  word_cmp

/-- The staging memref each window is on at point `t`, and that it is whole. -/
abbrev mem0 (t : Fin cfg0.N) : Memref sig .tc .vmem S1024x16 .f32 := win0_0.stage (cfg0.slots t 0)
abbrev memW0 (t : Fin cfg0.N) : (mem0 t).IsWhole := hstage0_0 ((cfg0.slots t 0).cast nbuf0_0)
abbrev mem1 (t : Fin cfg0.N) : Memref sig .tc .vmem S512x16 .f32 := win0_1.stage (cfg0.slots t 1)
abbrev memW1 (t : Fin cfg0.N) : (mem1 t).IsWhole := hstage0_1 ((cfg0.slots t 1).cast nbuf0_1)
abbrev mem2 (t : Fin cfg0.N) : Memref sig .tc .vmem S1x1x512 .f32 := win0_2.stage (cfg0.slots t 2)
abbrev memW2 (t : Fin cfg0.N) : (mem2 t).IsWhole := hstage0_2 ((cfg0.slots t 2).cast nbuf0_2)
abbrev mem3 (t : Fin cfg0.N) : Memref sig .tc .vmem S1024x16 .f32 := win0_3.stage (cfg0.slots t 3)
abbrev memW3 (t : Fin cfg0.N) : (mem3 t).IsWhole := hstage0_3 ((cfg0.slots t 3).cast nbuf0_3)
abbrev mem4 (t : Fin cfg0.N) : Memref sig .tc .vmem S1024x1 .i32 := win0_4.stage (cfg0.slots t 4)
abbrev memW4 (t : Fin cfg0.N) : (mem4 t).IsWhole := hstage0_4 ((cfg0.slots t 4).cast nbuf0_4)
/-- The three scratch operands. -/
abbrev scr0 : Memref sig .tc .vmem S1024x16 .f32 := Memref.whole cc0_scratch0
abbrev scr1 : Memref sig .tc .vmem S1024x16 .f32 := Memref.whole cc0_scratch1
abbrev scr2 : Memref sig .tc .vmem S128x512 .f32 := Memref.whole cc0_scratch2

/-- The region's resources besides the windows: the three scratches at any contents and the generator register. -/
theorem restA_eq (c : Dev nD) :
    (Pipeline.ΦA spec0 c : sProp 𝕄)
      = iprop(iprop((∃ d, owns (c : Thread nD τ) scr0 fullShare d) ∗ (∃ d, owns (c : Thread nD τ) scr1 fullShare d)
          ∗ (∃ d, owns (c : Thread nD τ) scr2 fullShare d)) ∗ (∃ r, prngReg c r)) := by
  unfold Pipeline.ΦA; rw [scopedRest0_eq]; simp only [scr0, scr1, scr2, owns_whole]; try rfl

/-- The two outputs are the windows whose staging contents no exact data names. -/
def outs : Fin 5 → Bool := fun w => decide (3 ≤ w.val)

/-- The body table's row at a point is the body as the pipeline calls it there. -/
theorem body_row (t : Fin cfg0.N) :
    defs₀ (F := F) .tc cfg0.body (cfg0.bodyArgs t (cfg0.slots t)) = bodyAt0 t := by
  unfold defs₀; rw [Defs.onTc_tc]

/-- Neither host line after the region writes anything but the two result buffers. -/
theorem sfx_writes : ∀ ops ∈ ([hostOps1] : List (List (HloOp τ sig (Elt F)))), ∀ op ∈ ops, ∀ b : Ref sig .tc,
    Proc.devRef .tc b ∈ op.writes → b ∈ ({main_v12, main_v13} : Finset (Ref sig .tc)) := by
  intro ops hops op hop b hb
  simp only [List.mem_cons, List.mem_nil_iff, or_false] at hops
  rcases hops with rfl
  simp only [hostOps1, List.mem_cons, List.mem_nil_iff, or_false] at hop
  rcases hop with rfl | rfl
  all_goals
    simp only [StableHlo.nullary_writes, StableHlo.unary_writes, StableHlo.reshape_writes, Finset.mem_singleton] at hb
    by_contra hne
    simp only [Finset.mem_insert, Finset.mem_singleton, not_or] at hne
    first
      | exact StableHlo.devRef_ne_of_ne hne.1 hb
      | exact StableHlo.devRef_ne_of_ne hne.2 hb

end Cert.KernelIdeal.Run

end
-- ==== Proof.KernelIdeal.Frame.lean ====
module

public import proofs.«01_k».proof.Proof.KernelIdeal.Base

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! The run that says nothing of the outputs: the arguments end unchanged and every semaphore at zero. -/

/-- Proof data that name the inputs' blocks only. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Pipeline.Dat.unnamed (cfg := cfg0) 3 t
    | ⟨4, _⟩ => Pipeline.Dat.unnamed (cfg := cfg0) 4 t
  Φ _ := Pipeline.ΦA spec0 c
  q _ := fullShare
  owed _ := 0

theorem fA_eq (c : Dev nD) (w : Fin cfg0.W) : (fdats m 0 c).A w = V m c (Pipeline.arrRef spec0 w) := by
  dsimp only [fdats]

theorem fafter0 (c : Dev nD) (t : Fin cfg0.N) : (fdats m 0 c).after 0 t = iblk m c 0 t := by dsimp only [fdats]
theorem fafter1 (c : Dev nD) (t : Fin cfg0.N) : (fdats m 0 c).after 1 t = iblk m c 1 t := by dsimp only [fdats]
theorem fafter2 (c : Dev nD) (t : Fin cfg0.N) : (fdats m 0 c).after 2 t = iblk m c 2 t := by dsimp only [fdats]

theorem fbefore0 (c : Dev nD) (t : Fin cfg0.N) (d) : (fdats m 0 c).before 0 t d = iblk m c 0 t :=
  before0_0_of m (fdats m 0 c) (fA_eq m c 0) (fafter0 m c) t d
theorem fbefore1 (c : Dev nD) (t : Fin cfg0.N) (d) : (fdats m 0 c).before 1 t d = iblk m c 1 t :=
  before0_1_of m (fdats m 0 c) (fA_eq m c 1) (fafter1 m c) t d
theorem fbefore2 (c : Dev nD) (t : Fin cfg0.N) (d) : (fdats m 0 c).before 2 t d = iblk m c 2 t :=
  before0_2_of m (fdats m 0 c) (fA_eq m c 2) (fafter2 m c) t d

/-- What the body is called with at a point, and what it returns. -/
def fPre (c : Dev nD) (t : Fin cfg0.N) : sProp 𝕄 :=
  iprop((fdats m 0 c).Φ t.castSucc ∗ (fdats m 0 c).owesAt () t.castSucc
    ∗ (∃ d, owns (c : Thread nD τ) (mem0 t) fullShare ((fdats m 0 c).before 0 t d))
    ∗ (∃ d, owns (c : Thread nD τ) (mem1 t) fullShare ((fdats m 0 c).before 1 t d))
    ∗ (∃ d, owns (c : Thread nD τ) (mem2 t) fullShare ((fdats m 0 c).before 2 t d))
    ∗ (∃ d, owns (c : Thread nD τ) (mem3 t) fullShare d)
    ∗ (∃ d, owns (c : Thread nD τ) (mem4 t) fullShare d))
def fPost (c : Dev nD) (t : Fin cfg0.N) : sProp 𝕄 :=
  iprop((fdats m 0 c).Φ t.succ ∗ (fdats m 0 c).owesAt () t.succ
    ∗ owns (c : Thread nD τ) (mem0 t) fullShare ((fdats m 0 c).after 0 t)
    ∗ owns (c : Thread nD τ) (mem1 t) fullShare ((fdats m 0 c).after 1 t)
    ∗ owns (c : Thread nD τ) (mem2 t) fullShare ((fdats m 0 c).after 2 t)
    ∗ (∃ d, owns (c : Thread nD τ) (mem3 t) fullShare d)
    ∗ (∃ d, owns (c : Thread nD τ) (mem4 t) fullShare d))

set_option maxHeartbeats 4000000 in
/-- The body at any point takes the one to the other, by the run of its case. -/
theorem fbody (c : Dev nD) (t : Fin cfg0.N) :
    fPre m c t ⊢ wp frame (wpE (defs₀ (F := F)) Variants.none c none) Set.univ (bodyAt0 t) (fun _ => fPost m c t) := by
  unfold fPre fPost bodyAt0
  simp only [fbefore0, fbefore1, fbefore2, fafter0, fafter1, fafter2]
  rw [show (fdats m 0 c).owesAt () t.succ = (fdats m 0 c).owesAt () t.castSucc from rfl,
    show (fdats m 0 c).Φ t.succ = Pipeline.ΦA spec0 c from rfl, show (fdats m 0 c).Φ t.castSucc = Pipeline.ΦA spec0 c from rfl, restA_eq]
  iintro ⟨⟨⟨⟨%ds0, HS0⟩, ⟨%ds1, HS1⟩, HS2⟩, Hg⟩, Ho, ⟨%d0, H0⟩, ⟨%d1, H1⟩, ⟨%d2, H2⟩, ⟨%d3, H3⟩, ⟨%d4, H4⟩⟩
  by_cases h0 : t.val / 8 = 0
  · skip
    iapply ((runA c (grid0.coords t) _ (memW0 t) _ (memW1 t) _ (memW2 t) _ (memW3 t) _ (memW4 t) _ _ _ _ _ _ ((atFirst_iff t).mpr h0) (fun h => by have := (atLast_iff t).mp h; omega) (iblk m c 0 t) (iblk m c 1 t) (iblk m c 2 t) d3 d4 ds0 ds1).2.2 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, ⟨%fT2, HS2⟩⟩
    isplitl [HS0 HS1 HS2 Hg]
    · isplitl [HS0 HS1 HS2]
      · isplitl [HS0]
        · iexists _; unfold owns; iexists _; isplitr
          swap; · iexact HS0
          ipureintro; rfl
        isplitl [HS1]
        · iexists _; unfold owns; iexists _; isplitr
          swap; · iexact HS1
          ipureintro; rfl
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexists _; iexact H3
    iexists _; iexact H4
  · by_cases h1 : t.val / 8 = 195
    · skip
      iapply ((runC c (grid0.coords t) _ (memW0 t) _ (memW1 t) _ (memW2 t) _ (memW3 t) _ (memW4 t) _ _ _ _ _ _ (fun h => h0 ((atFirst_iff t).mp h)) ((atLast_iff t).mpr h1) (iblk m c 0 t) (iblk m c 1 t) (iblk m c 2 t) d3 d4 ds0 ds1).2.2.2.2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, ⟨%fT2, HS2⟩⟩
      isplitl [HS0 HS1 HS2 Hg]
      · isplitl [HS0 HS1 HS2]
        · isplitl [HS0]
          · iexists _; unfold owns; iexists _; isplitr
            swap; · iexact HS0
            ipureintro; rfl
          isplitl [HS1]
          · iexists _; unfold owns; iexists _; isplitr
            swap; · iexact HS1
            ipureintro; rfl
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]
      · iexists _; unfold owns; iexists _; isplitr
        swap; · iexact H3
        ipureintro; rfl
      iexists _; unfold owns; iexists _; isplitr
      swap; · iexact H4
      ipureintro; rfl
    · skip
      iapply ((runB c (grid0.coords t) _ (memW0 t) _ (memW1 t) _ (memW2 t) _ (memW3 t) _ (memW4 t) _ _ _ _ _ _ (fun h => h0 ((atFirst_iff t).mp h)) (fun h => h1 ((atLast_iff t).mp h)) (iblk m c 0 t) (iblk m c 1 t) (iblk m c 2 t) d3 d4 ds0 ds1).2.2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, ⟨%fT2, HS2⟩⟩
      isplitl [HS0 HS1 HS2 Hg]
      · isplitl [HS0 HS1 HS2]
        · isplitl [HS0]
          · iexists _; unfold owns; iexists _; isplitr
            swap; · iexact HS0
            ipureintro; rfl
          isplitl [HS1]
          · iexists _; unfold owns; iexists _; isplitr
            swap; · iexact HS1
            ipureintro; rfl
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexists _; iexact H3
      iexists _; iexact H4

/-- The library's body obligation, the outputs forgotten. -/
theorem fobligation (c : Dev nD) :
    BodyObligationLoose (fdats (F := F) m 0 c) (defs₀ (F := F)) Variants.none () Set.univ outs := fun t => by
  rw [bigSep_W0, bigSep_W0, body_row]
  exact triple_restated (fbody m c t) rfl .rfl fun _ => .rfl

set_option backward.isDefEq.respectTransparency.types false in
set_option maxHeartbeats 800000 in
/-- The launch: every input's array at its launch contents, every other buffer but the two results as the region found it. -/
theorem frun : θ_run defs (onTc (τ := τ) (main (F := F))) (s₀ m ρ) (fun r =>
    Pipeline.RDat.FramePostR (cfgs 0) (fun c => (fdats m 0 c).toRForget outs) ({main_v12, main_v13} : Finset (Ref sig .tc))
      (fun c b => V0 m c (Proc.devRef .tc b)) r ∧ r.2.sem = fun _ => 0) :=
  Pipeline.θ_run_frame_around_T_forget (Q' := _) cfgs (fdats m) (0 : Fin 1) launch0 defs₀ Variants.none outs {main_v12, main_v13} m ρ main
    (hbody := fobligation m) (hshare := fun c => (fdats m 0 c).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := fA_eq m) (hΦ := fun _ _ => rfl)

/-- The frame: after any run the arguments hold what they held and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(Pipeline.RDat.FramePostR.arr_in h.1 c 0 rfl).trans (V_main_arg0 m c),
      (((h.1 c).2 main_arg1 (Finset.mem_sdiff.mpr ⟨Pipeline.mem_restRefs_of main_arg1 (by decide) (by decide), by decide⟩))).trans (V_main_arg1 m c),
      (((h.1 c).2 main_arg2 (Finset.mem_sdiff.mpr ⟨Pipeline.mem_restRefs_of main_arg2 (by decide) (by decide), by decide⟩))).trans (V_main_arg2 m c)⟩, h.2⟩)
    (frun m ρ)

end Cert.KernelIdeal.Run

end
-- ==== Proof.Reference.Run.lean ====
/- The reference's run: what its two results hold, as functions of the three arguments. -/
module

public import proofs.«01_k».proof.Defs
public import proofs.«01_k».proof.Proof.Gen.ReferenceIdeal
public import Idealize.ShloMosaic.Lib.Claim

@[expose] public section

set_option maxRecDepth 16384

noncomputable section

namespace Cert.ReferenceIdeal.Run

open Idealize.ShloMosaic Idealize.ShloMosaic.TcCoe
open Idealize.SL Idealize.SL.Sem
open Cert.ReferenceIdeal Facts₀ Facts

variable {F : FTy → Type} [FloatOps F]

/-- Every squared distance, by its expansion. -/
def dist (x : FVec F S1024x16 .f32) (tx : FVec F S100000x16 .f32) : FVec F S1024x100000 .f32 :=
  addf
    (subf
      (broadcastInDim S1024x100000 ![0, 1] bcast_S1024x1_S1024x100000_0_1
        (broadcastInDim S1024x1 ![0] bcast_S1024_S1024x1_0
          (Host.reduceAdd (mulf x x) (constant S_ .f32 0x00000000#32) reducesTo_S1024x16_S1024_d1 h_S_)))
      (mulf (broadcastInDim S1024x100000 ![] bcast_S_S1024x100000 (constant S_ .f32 0x40000000#32))
        (Host.dotGeneral dot_S1024x16_S16x100000_S1024x100000_1_0_0_1_n_n none x
          (transpose S16x100000 [1, 0] tx transposes_S100000x16_S16x100000_1_0))))
    (broadcastInDim S1024x100000 ![0, 1] bcast_S1x100000_S1024x100000_0_1
      (broadcastInDim S1x100000 ![1] bcast_S100000_S1x100000_1
        (Host.reduceAdd (mulf tx tx) (constant S_ .f32 0x00000000#32) reducesTo_S100000x16_S100000_d1 h_S_)))

/-- The indices of the fifteen nearest training points of every query. -/
def idx (x : FVec F S1024x16 .f32) (tx : FVec F S100000x16 .f32) : IVec S1024x15 32 :=
  (Host.topK S1024x15 1 (FloatOps.cmpfTotal .gt) (Host.negf (dist x tx)) sliceFits_S1024x100000_S1024x15).2

/-- An index below zero counts from the end. -/
def wrap (i : IVec S1024x15 32) : IVec S1024x15x1 32 :=
  broadcastInDim S1024x15x1 ![0, 1] bcast_S1024x15_S1024x15x1_0_1
    (select (cmpi .slt i (broadcastInDim S1024x15 ![] bcast_S_S1024x15 (constantI S_ 32 0#32)))
      (addi i (broadcastInDim S1024x15 ![] bcast_S_S1024x15 (constantI S_ 32 100000#32))) i)

/-- The labels at the given indices, the least integer where an index is out of range. -/
def take (y : IVec S100000 32) (i : IVec S1024x15x1 32) : IVec S1024x15 32 :=
  select
    (Host.reduce IntOp.andi
      (andi (cmpi .sge i (broadcastInDim S1024x15x1 ![] bcast_S_S1024x15x1 (constantI S_ 32 0#32)))
        (cmpi .sle i (broadcastInDim S1024x15x1 ![0, 1, 2] bcast_S1x1x1_S1024x15x1_0_1_2
          (broadcastInDim S1x1x1 ![2] bcast_S1_S1x1x1_2 (constantI S1 32 99999#32)))))
      (constantI S_ 1 1#1) reducesTo_S1024x15x1_S1024x15_d2 h_S_)
    (Host.gather gather_S100000_S1024x15x1_S1024x15_n_0_n_n_0_2_1 y i)
    (broadcastInDim S1024x15 ![] bcast_S_S1024x15 (constantI S_ 32 2147483648#32))

/-- Each label as its indicator over the ten classes. -/
def oneHot (l : IVec S1024x15 32) : FVec F S1024x15x10 .f32 :=
  uitofp .f32
    (cmpi .eq
      (broadcastInDim S1024x15x10 ![0, 1, 2] bcast_S1024x15x1_S1024x15x10_0_1_2
        (broadcastInDim S1024x15x1 ![0, 1] bcast_S1024x15_S1024x15x1_0_1 l))
      (broadcastInDim S1024x15x10 ![0, 1, 2] bcast_S1x1x10_S1024x15x10_0_1_2 (iotaInDim S1x1x10 32 2)))

/-- The mean of the fifteen indicators. -/
def mean (h : FVec F S1024x15x10 .f32) : FVec F S1024x10 .f32 :=
  Host.divf (Host.reduceAdd h (constant S_ .f32 0x00000000#32) reducesTo_S1024x15x10_S1024x10_d1 h_S_)
    (broadcastInDim S1024x10 ![] bcast_S_S1024x10 (constant S_ .f32 0x41700000#32))

/-- The class of the largest entry of every row. -/
def argmax (p : FVec F S1024x10 .f32) : IVec S1024 32 := fun j =>
  (Host.argReduce reducer_argmax_f32_i32 p (iotaInDim S1024x10 32 1) (constant S_ .f32 0xFF800000#32) (constantI S_ 32 0#32)
    reducesTo_S1024x10_S1024_d1 h_S_ j).2

/-- The reference's class probabilities. -/
def probs (x : FVec F S1024x16 .f32) (tx : FVec F S100000x16 .f32) (y : IVec S100000 32) : FVec F S1024x10 .f32 :=
  mean (oneHot (take y (wrap (idx x tx))))

/-- The reference's predictions. -/
def preds (x : FVec F S1024x16 .f32) (tx : FVec F S100000x16 .f32) (y : IVec S100000 32) : IVec S1024 32 :=
  argmax (probs x tx y)

variable (m : (ℓ : Loc nD τ sig) → Buf (Elt F) ℓ) (ρ : Dev nD → PrngReg)

set_option maxHeartbeats 4000000 in
/-- The reference ends with its two results at these values and its arguments unchanged. -/
theorem run : θ_run defs (onTc (τ := τ) (main (F := F))) ⟨m, fun _ => 0, ρ⟩ (fun r => ∀ c : Dev nD,
      r.2.mem ((c.tc : Thread nD τ).loc main_v20) = preds (m ((c.tc : Thread nD τ).loc main_arg0)) (m ((c.tc : Thread nD τ).loc main_arg1)) (m ((c.tc : Thread nD τ).loc main_arg2))
      ∧ r.2.mem ((c.tc : Thread nD τ).loc main_v19) = probs (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  hlo_run
  · unfold preds argmax probs mean oneHot take wrap idx dist; simp -implicitDefEqProofs only [StableHlo.TRef.ofBuf, StableHlo.TRef.toBuf, cast_cast, cast_eq]
  · unfold probs mean oneHot take wrap idx dist; simp -implicitDefEqProofs only [StableHlo.TRef.ofBuf, StableHlo.TRef.toBuf, cast_cast, cast_eq]

/-- The reference's frame: its arguments end unchanged and it has no semaphore. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2, sem_eq_zero_of_no_sems (by decide) r.2⟩) (run m ρ)

end Cert.ReferenceIdeal.Run

end
-- ==== Proof.Math.Select.lean ====
/- One query's running selection: what the fifteen slots hold after each extraction and after each block. -/
module

public import Mathlib.Data.EReal.Basic
public import Mathlib.Data.Fintype.Card
public import Mathlib.Data.Finset.Lattice.Fold
public import Mathlib.Data.Fintype.Fin
public import Mathlib.Data.Set.Card
public import Mathlib.Tactic.Linarith

@[expose] public section

noncomputable section

namespace Cert.Select

open Classical

/-- The least distance of a block. -/
def rowMin (d2 : Fin 512 → EReal) : EReal := Finset.univ.fold min ⊤ d2

/-- The greatest distance held. -/
def rowMax (rd : Fin 16 → EReal) : EReal := Finset.univ.fold max ⊥ rd

/-- The code of the lane extracted. -/
def pick (big : EReal) (code d2 : Fin 512 → EReal) : EReal :=
  Finset.univ.fold min ⊤ fun j => if d2 j = rowMin d2 then code j else big

/-- The block after an extraction. -/
def stepD (big : EReal) (code : Fin 512 → EReal) (rd : Fin 16 → EReal) (d2 : Fin 512 → EReal) : Fin 512 → EReal := fun j =>
  if code j = pick big code d2 ∧ rowMin d2 < rowMax rd then ⊤ else d2 j

/-- The slot numbers at which the greatest distance is held. -/
def slotKey (big : EReal) (rd : Fin 16 → EReal) : Fin 16 → EReal := fun s => if rd s = rowMax rd then (((s.val : ℝ)) : EReal) else big

/-- Whether a slot is the one replaced. -/
def chosen (big : EReal) (rd : Fin 16 → EReal) (d2 : Fin 512 → EReal) (s : Fin 16) : Prop :=
  slotKey big rd s = Finset.univ.fold min ⊤ (slotKey big rd) ∧ rowMin d2 < rowMax rd

/-- The distances held after an extraction. -/
def stepRd (big : EReal) (rd : Fin 16 → EReal) (d2 : Fin 512 → EReal) : Fin 16 → EReal := fun s =>
  if chosen big rd d2 s then rowMin d2 else rd s

/-- The codes held after an extraction. -/
def stepRc (big : EReal) (code : Fin 512 → EReal) (rd rc : Fin 16 → EReal) (d2 : Fin 512 → EReal) : Fin 16 → EReal := fun s =>
  if chosen big rd d2 s then pick big code d2 else rc s

/-- The least distance is a lower bound. -/
theorem rowMin_le (d2 : Fin 512 → EReal) (j : Fin 512) : rowMin d2 ≤ d2 j :=
  Finset.inf_le (f := d2) (Finset.mem_univ j)

/-- A minimum over a nonempty finite range is attained. -/
theorem fold_min_mem {n : ℕ} [NeZero n] (f : Fin n → EReal) : ∃ j, f j = Finset.univ.fold min ⊤ f := by
  obtain ⟨j, -, h⟩ := Finset.exists_mem_eq_inf Finset.univ Finset.univ_nonempty f
  exact ⟨j, h.symm⟩

/-- A minimum over a finite range is a lower bound. -/
theorem fold_min_le {n : ℕ} (f : Fin n → EReal) (j : Fin n) : Finset.univ.fold min ⊤ f ≤ f j :=
  Finset.inf_le (f := f) (Finset.mem_univ j)

/-- The greatest distance held is an upper bound. -/
theorem le_rowMax (rd : Fin 16 → EReal) (s : Fin 16) : rd s ≤ rowMax rd :=
  Finset.le_sup (f := rd) (Finset.mem_univ s)

/-- The greatest distance held is held. -/
theorem rowMax_mem (rd : Fin 16 → EReal) : ∃ s, rd s = rowMax rd := by
  obtain ⟨j, -, h⟩ := Finset.exists_mem_eq_sup Finset.univ Finset.univ_nonempty rd
  exact ⟨j, h.symm⟩

/-- What the slots hold, the points of `S` having been looked at: the last slot holds nothing and never will, every
    other slot is empty or holds a point of `S` by its distance and code, no point is held twice, and no point looked at
    and not held is nearer than one held. -/
structure Holds (D c : ℕ → EReal) (S : Set ℕ) (rd rc : Fin 16 → EReal) (σ : Fin 16 → Option ℕ) : Prop where
  last : rd 15 = ⊥ ∧ σ 15 = none
  empty : ∀ s, s ≠ 15 → σ s = none → rd s = ⊤
  full : ∀ s p, σ s = some p → p ∈ S ∧ rd s = D p ∧ rc s = c p
  once : ∀ s t p, σ s = some p → σ t = some p → s = t
  best : ∀ p ∈ S, (∀ s, σ s ≠ some p) → ∀ s, rd s ≤ D p

/-- The points looked at while `R` is what remains of the block that starts at `n`. -/
def seen (n : ℕ) (R : Finset (Fin 512)) : Set ℕ := {p | p < n ∨ ∃ j : Fin 512, j ∉ R ∧ p = n + j.val}

/-- The slots no remaining point of the block is nearer than. -/
def settled (D : ℕ → EReal) (n : ℕ) (R : Finset (Fin 512)) (rd : Fin 16 → EReal) : Finset (Fin 16) :=
  Finset.univ.filter fun s => s ≠ 15 ∧ ∀ j ∈ R, rd s ≤ D (n + j.val)

/-- The state inside a block before extraction `k`. -/
def Inside (D c : ℕ → EReal) (n k : ℕ) (rd rc : Fin 16 → EReal) (d2 : Fin 512 → EReal) : Prop :=
  ∃ (σ : Fin 16 → Option ℕ) (R : Finset (Fin 512)), Holds D c (seen n R) rd rc σ
    ∧ (∀ j, d2 j = if j ∈ R then D (n + j.val) else ⊤) ∧ k ≤ (settled D n R rd).card

/-- The state between blocks, the first `n` points having been looked at. -/
def Between (D c : ℕ → EReal) (n : ℕ) (rd rc : Fin 16 → EReal) : Prop :=
  ∃ σ : Fin 16 → Option ℕ, Holds D c {p | p < n} rd rc σ

/-- At the start nothing is held. -/
theorem between_zero (D c : ℕ → EReal) (rd rc : Fin 16 → EReal) (h : ∀ s, rd s = if s = 15 then ⊥ else ⊤) : Between D c 0 rd rc :=
  ⟨fun _ => none, ⟨by simp [h], rfl⟩, fun s hs _ => by simp [h, hs], by simp, by simp, by simp⟩

/-- A block is entered with all of it remaining. -/
theorem inside_zero (D c : ℕ → EReal) (n : ℕ) (rd rc : Fin 16 → EReal) (d2 : Fin 512 → EReal) (h : Between D c n rd rc)
    (hd : ∀ j, d2 j = D (n + j.val)) : Inside D c n 0 rd rc d2 := by
  obtain ⟨σ, h⟩ := h
  refine ⟨σ, Finset.univ, ?_, by simpa using hd, Nat.zero_le _⟩
  have : seen n Finset.univ = {p | p < n} := by ext p; simp [seen]
  rwa [this]

/-- After fifteen extractions every point of the block has been looked at. -/
theorem between_of_inside (D c : ℕ → EReal) (n : ℕ) (rd rc : Fin 16 → EReal) (d2 : Fin 512 → EReal)
    (h : Inside D c n 15 rd rc d2) : Between D c (n + 512) rd rc := by
  obtain ⟨σ, R, h, -, hk⟩ := h
  have hall : ∀ s, s ≠ 15 → ∀ j ∈ R, rd s ≤ D (n + j.val) := by
    have hsub : settled D n R rd ⊆ Finset.univ.erase 15 := by
      intro s hs; simp only [settled, Finset.mem_filter, Finset.mem_univ, true_and] at hs
      simp [hs.1]
    have heq := Finset.eq_of_subset_of_card_le hsub (by rw [Finset.card_erase_of_mem (Finset.mem_univ _)]; simpa using hk)
    intro s hs j hj
    have : s ∈ settled D n R rd := by rw [heq]; simp [hs]
    simp only [settled, Finset.mem_filter, Finset.mem_univ, true_and] at this
    exact this.2 j hj
  have hS : ∀ p, p < n + 512 → p ∈ seen n R ∨ ∃ j ∈ R, p = n + j.val := by
    intro p hp
    by_cases h1 : p < n
    · exact Or.inl (Or.inl h1)
    · let j : Fin 512 := ⟨p - n, by omega⟩
      have hj : p = n + j.val := by simp [j]; omega
      by_cases h2 : j ∈ R
      · exact Or.inr ⟨j, h2, hj⟩
      · exact Or.inl (Or.inr ⟨j, h2, hj⟩)
  refine ⟨σ, h.last, h.empty, ?_, h.once, ?_⟩
  · intro s p hp
    obtain ⟨h1, h2⟩ := h.full s p hp
    refine ⟨?_, h2⟩
    rcases h1 with h1 | ⟨j, -, h1⟩
    · simp only [Set.mem_setOf_eq]; omega
    · have := j.isLt; simp only [Set.mem_setOf_eq]; omega
  · intro p hp hn s
    rcases hS p hp with h1 | ⟨j, hj, h1⟩
    · exact h.best p h1 hn s
    · by_cases hs : s = 15
      · rw [hs, h.last.1]; exact bot_le
      · rw [h1]; exact hall s hs j hj

/-- One extraction. -/
theorem inside_succ (D c : ℕ → EReal) (big : EReal) (code : Fin 512 → EReal) (n k : ℕ) (rd rc : Fin 16 → EReal) (d2 : Fin 512 → EReal)
    (hcode : ∀ j, code j = c (n + j.val)) (hinj : Function.Injective code) (hbig : ∀ j, code j < big)
    (hslot : ∀ s : Fin 16, ((s.val : ℝ) : EReal) < big) (hk : k < 15)
    (h : Inside D c n k rd rc d2) :
    Inside D c n (k + 1) (stepRd big rd d2) (stepRc big code rd rc d2) (stepD big code rd d2) := by
  obtain ⟨σ, R, h, hd, hcard⟩ := h
  by_cases himp : rowMin d2 < rowMax rd
  · -- the lane extracted
    have hlane : ∃ j1 ∈ R, d2 j1 = rowMin d2 ∧ pick big code d2 = code j1 := by
      obtain ⟨j0, hj0⟩ := fold_min_mem (n := 512) d2
      change d2 j0 = rowMin d2 at hj0
      obtain ⟨j1, hj1⟩ := fold_min_mem (n := 512) fun j => if d2 j = rowMin d2 then code j else big
      have hle := fold_min_le (fun j => if d2 j = rowMin d2 then code j else big) j0
      rw [← hj1] at hle
      change (if d2 j1 = rowMin d2 then code j1 else big) = pick big code d2 at hj1
      by_cases h1 : d2 j1 = rowMin d2
      · refine ⟨j1, ?_, h1, ?_⟩
        · by_contra hR
          have := hd j1
          rw [if_neg hR, h1] at this
          rw [this] at himp
          exact not_top_lt himp
        · rw [← hj1, if_pos h1]
      · simp only [if_neg h1, if_pos hj0] at hle
        exact absurd hle (not_le.2 (hbig j0))
    obtain ⟨j1, hj1R, hj1, hpick⟩ := hlane
    have hDj1 : D (n + j1.val) = rowMin d2 := by rw [← hj1, hd j1, if_pos hj1R]
    -- the slot replaced
    have hsl : ∃ s0, rd s0 = rowMax rd ∧ ∀ s, chosen big rd d2 s ↔ s = s0 := by
      obtain ⟨sa, hsa⟩ := rowMax_mem rd
      obtain ⟨s0, hs0⟩ := fold_min_mem (n := 16) (slotKey big rd)
      have hle := fold_min_le (slotKey big rd) sa
      rw [← hs0] at hle
      have h0 : rd s0 = rowMax rd := by
        by_contra h0
        simp only [slotKey, if_neg h0, if_pos hsa] at hle
        exact absurd hle (not_le.2 (hslot sa))
      refine ⟨s0, h0, fun s => ⟨fun hs => ?_, fun hs => ?_⟩⟩
      · have hs1 := hs.1
        rw [← hs0] at hs1
        simp only [slotKey, if_pos h0] at hs1
        by_cases hsr : rd s = rowMax rd
        · rw [if_pos hsr] at hs1
          exact Fin.ext (by exact_mod_cast hs1)
        · rw [if_neg hsr] at hs1
          exact absurd hs1 (hslot s0).ne'
      · subst hs; exact ⟨hs0, himp⟩
    obtain ⟨s0, hs0, hch⟩ := hsl
    have hs015 : s0 ≠ 15 := by
      intro h15; rw [h15, h.last.1] at hs0; rw [← hs0] at himp; exact not_lt_bot himp
    have hrd : ∀ s, stepRd big rd d2 s = if s = s0 then rowMin d2 else rd s := fun s => by simp only [stepRd, hch]
    have hrc : ∀ s, stepRc big code rd rc d2 s = if s = s0 then code j1 else rc s := fun s => by
      simp only [stepRc, hch, hpick]
    have hD : ∀ j, stepD big code rd d2 j = if j = j1 then ⊤ else d2 j := fun j => by
      simp only [stepD, hpick, himp, and_true, hinj.eq_iff]
    have hnew : n + j1.val ∉ seen n R := by
      rintro (h1 | ⟨j, hj, h1⟩)
      · omega
      · have : j1 = j := Fin.ext (by omega)
        exact hj (this ▸ hj1R)
    have hfresh : ∀ s, σ s ≠ some (n + j1.val) := fun s hs => hnew (h.full s _ hs).1
    have hseen : ∀ p, p ∈ seen n (R.erase j1) ↔ p ∈ seen n R ∨ p = n + j1.val := by
      intro p
      constructor
      · rintro (h1 | ⟨j, hj, h1⟩)
        · exact Or.inl (Or.inl h1)
        · by_cases hjj : j = j1
          · exact Or.inr (hjj ▸ h1)
          · exact Or.inl (Or.inr ⟨j, fun hR => hj (Finset.mem_erase.2 ⟨hjj, hR⟩), h1⟩)
      · rintro ((h1 | ⟨j, hj, h1⟩) | h1)
        · exact Or.inl h1
        · exact Or.inr ⟨j, fun hR => hj (Finset.mem_of_mem_erase hR), h1⟩
        · exact Or.inr ⟨j1, Finset.notMem_erase _ _, h1⟩
    refine ⟨fun s => if s = s0 then some (n + j1.val) else σ s, R.erase j1, ⟨?_, ?_, ?_, ?_, ?_⟩, ?_, ?_⟩
    · rw [hrd, if_neg hs015.symm, if_neg hs015.symm]; exact h.last
    · intro s hs hn
      by_cases hss : s = s0
      · simp [hss] at hn
      · rw [if_neg hss] at hn; rw [hrd, if_neg hss]; exact h.empty s hs hn
    · intro s p hp
      by_cases hss : s = s0
      · rw [if_pos hss] at hp
        have hp' : n + j1.val = p := Option.some.inj hp
        rw [hrd, hrc, if_pos hss, if_pos hss, ← hp']
        exact ⟨(hseen _).2 (Or.inr rfl), hDj1.symm, hcode j1⟩
      · rw [if_neg hss] at hp
        obtain ⟨h1, h2, h3⟩ := h.full s p hp
        rw [hrd, hrc, if_neg hss, if_neg hss]
        exact ⟨(hseen _).2 (Or.inl h1), h2, h3⟩
    · intro s t p hs ht
      by_cases hss : s = s0 <;> by_cases htt : t = s0
      · rw [hss, htt]
      · rw [if_pos hss] at hs; rw [if_neg htt] at ht
        rw [← hs] at ht; exact absurd ht (hfresh t)
      · rw [if_neg hss] at hs; rw [if_pos htt] at ht
        rw [← ht] at hs; exact absurd hs (hfresh s)
      · rw [if_neg hss] at hs; rw [if_neg htt] at ht
        exact h.once s t p hs ht
    · intro p hp hn s
      have hpn : p ≠ n + j1.val := by
        intro hh; apply hn s0; rw [if_pos rfl, hh]
      have hpS : p ∈ seen n R := ((hseen p).1 hp).resolve_right hpn
      have hmain : rowMax rd ≤ D p := by
        by_cases hheld : ∃ t, σ t = some p
        · obtain ⟨t, ht⟩ := hheld
          have : t = s0 := by
            by_contra hts; exact hn t (by rw [if_neg hts]; exact ht)
          rw [← hs0, ← this, (h.full t p ht).2.1]
        · rw [← hs0]; exact h.best p hpS (fun t ht => hheld ⟨t, ht⟩) s0
      rw [hrd]
      split
      · exact himp.le.trans hmain
      · exact (le_rowMax rd s).trans hmain
    · intro j
      rw [hD, hd]
      by_cases hj : j = j1
      · simp [hj]
      · simp [hj]
    · have hs0A : s0 ∉ settled D n R rd := by
        simp only [settled, Finset.mem_filter, Finset.mem_univ, true_and, not_and]
        intro _ hh
        have := hh j1 hj1R
        rw [hs0, hDj1] at this
        exact absurd this (not_le.2 himp)
      have hsub : insert s0 (settled D n R rd) ⊆ settled D n (R.erase j1) (stepRd big rd d2) := by
        intro s hs
        simp only [settled, Finset.mem_filter, Finset.mem_univ, true_and]
        rcases Finset.mem_insert.1 hs with hs | hs
        · refine ⟨hs ▸ hs015, fun j hj => ?_⟩
          rw [hrd, if_pos hs]
          have hjR := Finset.mem_of_mem_erase hj
          have := rowMin_le d2 j
          rwa [hd j, if_pos hjR] at this
        · have hss : s ≠ s0 := fun hh => hs0A (hh ▸ hs)
          simp only [settled, Finset.mem_filter, Finset.mem_univ, true_and] at hs
          refine ⟨hs.1, fun j hj => ?_⟩
          rw [hrd, if_neg hss]
          exact hs.2 j (Finset.mem_of_mem_erase hj)
      have := Finset.card_le_card hsub
      rw [Finset.card_insert_of_notMem hs0A] at this
      omega
  · have h1 : stepRd big rd d2 = rd := by funext s; simp [stepRd, chosen, himp]
    have h2 : stepRc big code rd rc d2 = rc := by funext s; simp [stepRc, chosen, himp]
    have h3 : stepD big code rd d2 = d2 := by funext s; simp [stepD, himp]
    rw [h1, h2, h3]
    refine ⟨σ, R, h, hd, ?_⟩
    have hall : settled D n R rd = Finset.univ.erase 15 := by
      ext s
      simp only [settled, Finset.mem_filter, Finset.mem_univ, true_and, Finset.mem_erase, and_true]
      refine ⟨fun hh => hh.1, fun hh => ⟨hh, fun j hj => ?_⟩⟩
      have h5 := rowMin_le d2 j
      rw [hd j, if_pos hj] at h5
      exact (le_rowMax rd s).trans ((not_lt.1 himp).trans h5)
    rw [hall, Finset.card_erase_of_mem (Finset.mem_univ _)]
    simp only [Finset.card_univ, Fintype.card_fin]
    omega

/-- At the end the slots hold exactly the fifteen nearest points, if those are told apart from all others. -/
theorem held_of_nearest (D c : ℕ → EReal) (N : ℕ) (rd rc : Fin 16 → EReal) (σ : Fin 16 → Option ℕ) (h : Holds D c {p | p < N} rd rc σ)
    (hfin : ∀ p, p < N → D p ≠ ⊤) (τ : Fin 15 → ℕ) (hτ : Function.Injective τ) (hlt : ∀ k, τ k < N)
    (hnear : ∀ k p, p < N → (∀ k', τ k' ≠ p) → D (τ k) < D p) :
    ∃ e : Fin 15 ≃ Fin 15, ∀ s : Fin 15, σ s.castSucc = some (τ (e s)) := by
  have hheld : ∀ k, ∃ s : Fin 15, σ s.castSucc = some (τ k) := by
    intro k
    by_contra hno
    have hun : ∀ s, σ s ≠ some (τ k) := by
      intro s hs
      by_cases h15 : s = 15
      · rw [h15, h.last.2] at hs; exact absurd hs (by simp)
      · have hs' : s.val < 15 := by
          have := s.isLt
          have : s.val ≠ 15 := fun hh => h15 (Fin.ext hh)
          omega
        exact hno ⟨⟨s.val, hs'⟩, hs⟩
    have hle := h.best (τ k) (hlt k) hun
    have hsome : ∀ s : Fin 15, ∃ k', k' ≠ k ∧ σ s.castSucc = some (τ k') := by
      intro s
      have hne : s.castSucc ≠ (15 : Fin 16) := fun hh => by
        have := congrArg Fin.val hh; simp at this; omega
      cases hσ : σ s.castSucc with
      | none =>
        have := hle s.castSucc
        rw [h.empty _ hne hσ] at this
        exact absurd (top_le_iff.1 this) (hfin _ (hlt k))
      | some p =>
        obtain ⟨hp, hd, -⟩ := h.full _ _ hσ
        by_cases hex : ∃ k', τ k' = p
        · obtain ⟨k', hk'⟩ := hex
          refine ⟨k', ?_, by rw [hk']⟩
          rintro rfl
          exact hun _ (hk' ▸ hσ)
        · have h1 := hnear k p hp (fun k' hk' => hex ⟨k', hk'⟩)
          have h2 := hle s.castSucc
          rw [hd] at h2
          exact absurd h2 (not_le.2 h1)
    choose f hf hf' using hsome
    have hfi : Function.Injective f := by
      intro s t hst
      have := h.once _ _ _ (hf' s) (hst ▸ hf' t)
      exact Fin.castSucc_injective _ this
    obtain ⟨s, hs⟩ := (Finite.injective_iff_surjective.1 hfi) k
    exact hf s hs
  choose g hg using hheld
  have hgi : Function.Injective g := by
    intro k k' hkk
    have h1 := hg k
    rw [hkk, hg k'] at h1
    exact (hτ (Option.some.inj h1)).symm
  let e := Equiv.ofBijective g (Finite.injective_iff_bijective.1 hgi)
  refine ⟨e.symm, fun s => ?_⟩
  have := hg (e.symm s)
  rwa [show g (e.symm s) = s from e.apply_symm_apply s] at this

end Cert.Select

end
-- ==== Proof.Math.Vote.lean ====
/- One query's vote: the count of each class among the slots that hold a point, and the class with the most. -/
module

public import proofs.«01_k».proof.Proof.Math.Select
public import Idealize.ShloMosaic.PureOps.Ideal

@[expose] public section

noncomputable section

namespace Cert.Select

open Classical Idealize.ShloMosaic

/-- The label in a code: its remainder by sixteen. -/
def labelOf (x : EReal) : EReal := x - 16 * Ideal.liftRound Int.floor (x * ((1 / 16 : ℝ) : EReal))

/-- The number of slots that hold a point of class `c`. -/
def votes (rd rc : Fin 16 → EReal) (c : EReal) : EReal :=
  ∑ s, if labelOf (rc s) = c ∧ ¬(rd s = ⊤ ∨ rd s = ⊥) then 1 else 0

/-- The best count and class after one more class. -/
def voteStep (p : EReal × EReal) (k c : EReal) : EReal × EReal := if p.1 < k then (k, c) else p

/-- The best count and class among the first `n` classes. -/
def vote (K : ℕ → EReal) : ℕ → EReal × EReal
  | 0 => (((-1 : ℝ) : EReal), ((0 : ℝ) : EReal))
  | n + 1 => voteStep (vote K n) (K n) ((n : ℝ) : EReal)

/-- The label of a code is the label the code was made of. -/
theorem labelOf_code (l y : ℕ) (hy : y < 16) : labelOf (((16 * l + y : ℕ) : ℝ) : EReal) = ((y : ℝ) : EReal) := by
  unfold labelOf
  have h : ⌊((16 * l + y : ℕ) : ℝ) * (1 / 16)⌋ = (l : ℤ) := by
    rw [Int.floor_eq_iff]
    have : (y : ℝ) < 16 := by exact_mod_cast hy
    push_cast
    constructor <;> linarith [Nat.cast_nonneg (α := ℝ) y]
  rw [← EReal.coe_mul]
  change ((((16 * l + y : ℕ) : ℝ) : EReal)) - 16 * ((((⌊((16 * l + y : ℕ) : ℝ) * (1 / 16)⌋ : ℤ) : ℝ)) : EReal) = _
  rw [h, show (16 : EReal) = ((16 : ℝ) : EReal) from rfl, ← EReal.coe_mul, ← EReal.coe_sub]
  refine EReal.coe_eq_coe_iff.2 ?_
  push_cast
  ring

/-- The counts, when the slots hold the fifteen points `τ` of labels `y` below sixteen. -/
theorem votes_eq (D c : ℕ → EReal) (N : ℕ) (rd rc : Fin 16 → EReal) (σ : Fin 16 → Option ℕ) (h : Holds D c {p | p < N} rd rc σ)
    (hfin : ∀ p, p < N → D p ≠ ⊤ ∧ D p ≠ ⊥) (y : ℕ → ℕ) (hc : ∀ p, p < N → labelOf (c p) = ((y p : ℝ) : EReal))
    (τ : Fin 15 → ℕ) (hlt : ∀ k, τ k < N) (e : Fin 15 ≃ Fin 15) (he : ∀ s : Fin 15, σ s.castSucc = some (τ (e s))) (a : ℕ) :
    votes rd rc ((a : ℝ) : EReal) = ((((Finset.univ.filter fun k => y (τ k) = a).card : ℕ) : ℝ) : EReal) := by
  unfold votes
  rw [Fin.sum_univ_castSucc]
  have hl : (Fin.last 15) = (15 : Fin 16) := rfl
  rw [hl, if_neg (by rw [h.last.1]; simp), add_zero]
  have hs : ∀ s : Fin 15, (if labelOf (rc s.castSucc) = ((a : ℝ) : EReal) ∧ ¬(rd s.castSucc = ⊤ ∨ rd s.castSucc = ⊥) then (1 : EReal) else 0)
      = (fun k => if y (τ k) = a then (1 : EReal) else 0) (e s) := by
    intro s
    obtain ⟨hp, h1, h2⟩ := h.full _ _ (he s)
    rw [h1, h2, hc _ hp]
    have h3 := hfin _ hp
    simp only [h3.1, h3.2, or_self, not_false_eq_true, and_true]
    norm_cast
  rw [Finset.sum_congr rfl fun s _ => hs s, Equiv.sum_comp e (fun k => if y (τ k) = a then (1 : EReal) else 0)]
  rw [Finset.sum_boole]
  norm_cast

/-- The vote ends at the first class of the greatest count. -/
theorem vote_spec (K : ℕ → ℕ) (n : ℕ) (hn : 0 < n) : ∃ a, a < n ∧ vote (fun c => ((K c : ℝ) : EReal)) n = (((K a : ℝ) : EReal), ((a : ℝ) : EReal))
    ∧ (∀ c, c < n → K c ≤ K a) ∧ ∀ c, c < a → K c < K a := by
  induction n with
  | zero => omega
  | succ n ih =>
    by_cases h0 : n = 0
    · subst h0
      refine ⟨0, by omega, ?_, ?_, by omega⟩
      · have : (((-1 : ℝ)) : EReal) < ((K 0 : ℝ) : EReal) := by
          rw [EReal.coe_lt_coe_iff]; linarith [Nat.cast_nonneg (α := ℝ) (K 0)]
        change (if (((-1 : ℝ)) : EReal) < ((K 0 : ℝ) : EReal) then _ else _) = _
        rw [if_pos this]
      · intro c hc
        obtain rfl : c = 0 := by omega
        exact le_rfl
    · obtain ⟨a, ha, hv, hmax, hlow⟩ := ih (by omega)
      by_cases hk : K a < K n
      · refine ⟨n, by omega, ?_, ?_, ?_⟩
        · have : ((K a : ℝ) : EReal) < ((K n : ℝ) : EReal) := by exact_mod_cast hk
          simp only [vote, voteStep, hv, if_pos this]
        · intro c hc
          rcases Nat.lt_succ_iff_lt_or_eq.1 hc with h | h
          · exact (hmax c h).trans hk.le
          · rw [h]
        · intro c hc
          exact (hmax c hc).trans_lt hk
      · refine ⟨a, by omega, ?_, ?_, hlow⟩
        · have : ¬((K a : ℝ) : EReal) < ((K n : ℝ) : EReal) := by exact_mod_cast hk
          simp only [vote, voteStep, hv, this, if_false]
        · intro c hc
          rcases Nat.lt_succ_iff_lt_or_eq.1 hc with h | h
          · exact hmax c h
          · rw [h]; omega

end Cert.Select

end
-- ==== Proof.KernelIdeal.Rows.lean ====
/- The kernel's payloads at the exact instance, read one query row at a time. -/
module

public import proofs.«01_k».proof.Proof.Gen.KernelIdeal.Skeleton
public import proofs.«01_k».proof.Proof.Math.Vote
public import Idealize.ShloMosaic.Lib.Pointwise
public import Idealize.ShloMosaic.Lib.KernelVsHost

@[expose] public section

set_option maxRecDepth 16384

noncomputable section

namespace Cert.KernelIdeal.Rows

open Idealize.ShloMosaic Idealize.ShloMosaic.Pointwise
open Cert.KernelIdeal Cert.KernelIdeal.Gen Cert.Select

/-- Row `r` of an array of rows. -/
abbrev row {a b : ℕ} {α : Type} (v : (⟨2, ![a, b]⟩ : Shape).Idx → α) (r : Fin a) : Fin b → α := fun j => v (ix2 r j)

/-- The value the kernel masks with, ten to the ninth. -/
def big : EReal := Ideal.ofBits .f32 0x4E6E6B28#32

/-- A selection by a decided bit. -/
theorem select_ofBool {α : Type} (p : Prop) [Decidable p] (a b : α) : Scalar.select (BitVec.ofBool (decide p)) a b = if p then a else b := by
  by_cases h : p <;> simp [h, Scalar.select]

/-- Two decided bits together. -/
theorem andi_ofBool (p q : Prop) [Decidable p] [Decidable q] :
    IntOp.andi (BitVec.ofBool (decide p)) (BitVec.ofBool (decide q)) = BitVec.ofBool (decide (p ∧ q)) := by
  by_cases h : p <;> by_cases h' : q <;> simp [h, h', IntOp.andi]

/-- A decided bit turned over. -/
theorem xori_ofBool (p : Prop) [Decidable p] : IntOp.xori (BitVec.ofBool (decide p)) 1#1 = BitVec.ofBool (decide ¬p) := by
  by_cases h : p <;> simp [h, IntOp.xori]

/-- A decided bit as a number. -/
theorem sitofp_ofBool (p : Prop) [Decidable p] :
    FloatOps.sitofp (F := Ideal) .f32 (BitVec.setWidth 32 (BitVec.ofBool (decide p))) = if p then (1 : EReal) else 0 := by
  by_cases h : p
  · simp only [h, decide_true, if_true]
    change ((((BitVec.setWidth 32 (BitVec.ofBool true)).toInt : ℤ) : ℝ) : EReal) = 1
    rw [show (BitVec.setWidth 32 (BitVec.ofBool true)).toInt = 1 by decide]; simp
  · simp only [h, decide_false, if_false]
    change ((((BitVec.setWidth 32 (BitVec.ofBool false)).toInt : ℤ) : ℝ) : EReal) = 0
    rw [show (BitVec.setWidth 32 (BitVec.ofBool false)).toInt = 0 by decide]; simp

/-- The pattern of plus infinity. -/
theorem ofBits_top : Ideal.ofBits .f32 2139095040#32 = ⊤ := by simp [Ideal.ofBits, Ideal.ieee]
/-- The pattern of minus infinity. -/
theorem ofBits_bot : Ideal.ofBits .f32 4286578688#32 = ⊥ := by simp [Ideal.ofBits, Ideal.ieee]
/-- The mask is the real number ten to the ninth. -/
theorem big_eq : big = ((1000000000 : ℝ) : EReal) := by
  unfold big; simp [Ideal.ofBits, Ideal.ieee, -EReal.coe_mul]; norm_num
/-- The pattern of 2. -/
theorem ofBits_two : Ideal.ofBits .f32 1073741824#32 = ((2 : ℝ) : EReal) := by
  simp [Ideal.ofBits, Ideal.ieee, -EReal.coe_mul]; norm_num
/-- The pattern of 16. -/
theorem ofBits_sixteen : Ideal.ofBits .f32 1098907648#32 = ((16 : ℝ) : EReal) := by
  simp [Ideal.ofBits, Ideal.ieee, -EReal.coe_mul]; norm_num
/-- The pattern of 1. -/
theorem ofBits_one : Ideal.ofBits .f32 1065353216#32 = ((1 : ℝ) : EReal) := by
  simp [Ideal.ofBits, Ideal.ieee, -EReal.coe_mul]; norm_num
/-- The pattern of -1. -/
theorem ofBits_neg_one : Ideal.ofBits .f32 3212836864#32 = ((-1 : ℝ) : EReal) := by
  simp [Ideal.ofBits, Ideal.ieee, -EReal.coe_mul]; norm_num
/-- The pattern of 3. -/
theorem ofBits_three : Ideal.ofBits .f32 1077936128#32 = ((3 : ℝ) : EReal) := by
  simp [Ideal.ofBits, Ideal.ieee, -EReal.coe_mul]; norm_num
/-- The pattern of 4. -/
theorem ofBits_four : Ideal.ofBits .f32 1082130432#32 = ((4 : ℝ) : EReal) := by
  simp [Ideal.ofBits, Ideal.ieee, -EReal.coe_mul]; norm_num
/-- The pattern of 5. -/
theorem ofBits_five : Ideal.ofBits .f32 1084227584#32 = ((5 : ℝ) : EReal) := by
  simp [Ideal.ofBits, Ideal.ieee, -EReal.coe_mul]; norm_num
/-- The pattern of 6. -/
theorem ofBits_six : Ideal.ofBits .f32 1086324736#32 = ((6 : ℝ) : EReal) := by
  simp [Ideal.ofBits, Ideal.ieee, -EReal.coe_mul]; norm_num
/-- The pattern of 7. -/
theorem ofBits_seven : Ideal.ofBits .f32 1088421888#32 = ((7 : ℝ) : EReal) := by
  simp [Ideal.ofBits, Ideal.ieee, -EReal.coe_mul]; norm_num
/-- The pattern of 8. -/
theorem ofBits_eight : Ideal.ofBits .f32 1090519040#32 = ((8 : ℝ) : EReal) := by
  simp [Ideal.ofBits, Ideal.ieee, -EReal.coe_mul]; norm_num
/-- The pattern of 9. -/
theorem ofBits_nine : Ideal.ofBits .f32 1091567616#32 = ((9 : ℝ) : EReal) := by
  simp [Ideal.ofBits, Ideal.ieee, -EReal.coe_mul]; norm_num
/-- The pattern of 1 / 16. -/
theorem ofBits_sixteenth : Ideal.ofBits .f32 1031798784#32 = ((1 / 16 : ℝ) : EReal) := by
  simp [Ideal.ofBits, Ideal.ieee, -EReal.coe_mul]; norm_num

/-- The small natural a lane number is. -/
theorem sitofp_ofNat (n : ℕ) (h : n < 2 ^ 31) : FloatOps.sitofp (F := Ideal) .f32 (BitVec.ofNat 32 n) = ((n : ℝ) : EReal) := by
  change ((((BitVec.ofNat 32 n).toInt : ℤ) : ℝ) : EReal) = _
  rw [BitVec.toInt_eq_toNat_of_lt (by rw [BitVec.toNat_ofNat]; omega), BitVec.toNat_ofNat, Nat.mod_eq_of_lt (by omega)]
  simp

/-- The block's distances: the point's square less twice its product with the query. -/
theorem pay50_row (v5 : FVec Ideal S128x16 .f32) (v6 : FVec Ideal S512x16 .f32) (r : Fin 128) (j : Fin 512) :
    k0_pay50 (F := Ideal) v5 v6 (ix2 r j) = ∑ x, v6 (ix2 j x) * v6 (ix2 j x) - ((2 : ℝ) : EReal) * ∑ x, v5 (ix2 r x) * v6 (ix2 j x) := by
  pointwise [k0_pay50]
  rw [ofBits_two]

/-- The block after one extraction. -/
theorem pay55_row (v8 : FVec Ideal S1x1x512 .f32) (rd : FVec Ideal S128x16 .f32) (d2 : FVec Ideal S128x512 .f32) (r : Fin 128) (j : Fin 512) :
    k0_pay55 (F := Ideal) v8 rd d2 (ix2 r j) = stepD big (fun j => v8 (ix3 0 0 j)) (row rd r) (row d2 r) j := by
  pointwise [k0_pay55, k0_pay53, k0_pay54, k0_pay51, k0_pay52, k0_pay49]
  rw [andi_ofBool, select_ofBool]
  simp only [ofBits_top, ofBits_bot]
  unfold stepD pick rowMin rowMax big
  congr

/-- The distances held after one extraction. -/
theorem pay57_row (rd : FVec Ideal S128x16 .f32) (d2 : FVec Ideal S128x512 .f32) (r : Fin 128) (j : Fin 16) :
    k0_pay57 (F := Ideal) rd d2 (ix2 r j) = stepRd big (row rd r) (row d2 r) j := by
  pointwise [k0_pay57, k0_pay56, k0_pay53, k0_pay51, k0_pay52, k0_pay49]
  rw [andi_ofBool, select_ofBool]
  simp only [ofBits_top, ofBits_bot]
  have h : ∀ x : Fin 16, FloatOps.sitofp (F := Ideal) .f32 (BitVec.ofNat 32 x.val) = ((x.val : ℝ) : EReal) := fun x =>
    sitofp_ofNat x.val (by omega)
  simp only [h]
  unfold stepRd chosen slotKey rowMin rowMax big
  congr

/-- The codes held after one extraction. -/
theorem pay58_row (v8 : FVec Ideal S1x1x512 .f32) (rd rc : FVec Ideal S128x16 .f32) (d2 : FVec Ideal S128x512 .f32) (r : Fin 128) (j : Fin 16) :
    k0_pay58 (F := Ideal) v8 rd rc d2 (ix2 r j) = stepRc big (fun j => v8 (ix3 0 0 j)) (row rd r) (row rc r) (row d2 r) j := by
  pointwise [k0_pay58, k0_pay54, k0_pay56, k0_pay53, k0_pay51, k0_pay52, k0_pay49]
  rw [andi_ofBool, select_ofBool]
  simp only [ofBits_top, ofBits_bot]
  have h : ∀ x : Fin 16, FloatOps.sitofp (F := Ideal) .f32 (BitVec.ofNat 32 x.val) = ((x.val : ℝ) : EReal) := fun x =>
    sitofp_ofNat x.val (by omega)
  simp only [h]
  unfold stepRc chosen slotKey pick rowMin rowMax big
  congr

/-- The first state: fifteen empty slots and one that never takes a point. -/
theorem pay47_row (r : Fin 128) (j : Fin 16) : k0_pay47 (F := Ideal) (ix2 r j) = if j = 15 then ⊥ else ⊤ := by
  pointwise [k0_pay47]
  simp only [ofBits_top, ofBits_bot]
  by_cases h : j = 15
  · subst h; simp
  · have : j.val < 15 := by
      have := j.isLt
      have : j.val ≠ 15 := fun hh => h (Fin.ext hh)
      omega
    simp [h, this]

/-- What is stored of the distances is what is held. -/
theorem pay59_row (v : FVec Ideal S128x16 .f32) : k0_pay59 (F := Ideal) v = v := by
  unfold k0_pay59; exact shapeCast_self _ _

/-- What is stored of the codes is what is held. -/
theorem pay1_row (v : FVec Ideal S128x16 .f32) : k0_pay1 (F := Ideal) v = v := by
  unfold k0_pay1; exact shapeCast_self _ _

/-- Whether a slot holds a point. -/
theorem pay8_row (rd : FVec Ideal S128x16 .f32) (r : Fin 128) (s : Fin 16) :
    k0_pay8 (F := Ideal) rd (ix2 r s) = BitVec.ofBool (decide ¬(row rd r s = ⊤ ∨ row rd r s = ⊥)) := by
  pointwise [k0_pay8]
  exact xori_ofBool _

/-- The label of a slot's code. -/
theorem pay9_row (rc : FVec Ideal S128x16 .f32) (r : Fin 128) (s : Fin 16) : k0_pay9 (F := Ideal) rc (ix2 r s) = labelOf (row rc r s) := by
  pointwise [k0_pay9]
  simp only [ofBits_sixteen, ofBits_sixteenth]
  rfl

/-- One slot's contribution to the count of one class. -/
theorem hit_eq (rd rc : FVec Ideal S128x16 .f32) (r : Fin 128) (s : Fin 16) (c : EReal) :
    FloatOps.sitofp (F := Ideal) .f32 (BitVec.setWidth 32 (IntOp.andi (BitVec.ofBool (decide (labelOf (row rc r s) = c)))
      (BitVec.ofBool (decide ¬(row rd r s = ⊤ ∨ row rd r s = ⊥)))))
      = if labelOf (row rc r s) = c ∧ ¬(row rd r s = ⊤ ∨ row rd r s = ⊥) then (1 : EReal) else 0 := by
  rw [andi_ofBool, sitofp_ofBool]

/-- The count of class 0. -/
theorem pay11_row (rd rc : FVec Ideal S128x16 .f32) (r : Fin 128) :
    k0_pay11 (F := Ideal) rd rc (ix2 r 0) = votes (row rd r) (row rc r) (((0 : ℕ) : ℝ) : EReal) := by
  pointwise [k0_pay11]
  simp only [pay9_row, pay8_row, Ideal.ofBits_zero_f32]
  unfold votes
  refine Finset.sum_congr rfl fun s _ => ?_
  rw [hit_eq]
  norm_num

/-- The count of class 1. -/
theorem pay15_row (rd rc : FVec Ideal S128x16 .f32) (r : Fin 128) :
    k0_pay15 (F := Ideal) rd rc (ix2 r 0) = votes (row rd r) (row rc r) (((1 : ℕ) : ℝ) : EReal) := by
  pointwise [k0_pay15]
  simp only [pay9_row, pay8_row, ofBits_one]
  unfold votes
  refine Finset.sum_congr rfl fun s _ => ?_
  rw [hit_eq]
  norm_num

/-- The count of class 2. -/
theorem pay21_row (rd rc : FVec Ideal S128x16 .f32) (r : Fin 128) :
    k0_pay21 (F := Ideal) (k0_pay8 (F := Ideal) rd) (k0_pay20 (F := Ideal) rc) (ix2 r 0) = votes (row rd r) (row rc r) (((2 : ℕ) : ℝ) : EReal) := by
  pointwise [k0_pay21, k0_pay20]
  simp only [pay9_row, pay8_row, ofBits_two]
  unfold votes
  refine Finset.sum_congr rfl fun s _ => ?_
  rw [hit_eq]
  norm_num

/-- The count of class 3. -/
theorem pay25_row (rd rc : FVec Ideal S128x16 .f32) (r : Fin 128) :
    k0_pay25 (F := Ideal) (k0_pay8 (F := Ideal) rd) (k0_pay9 (F := Ideal) rc) (ix2 r 0) = votes (row rd r) (row rc r) (((3 : ℕ) : ℝ) : EReal) := by
  pointwise [k0_pay25]
  simp only [pay9_row, pay8_row, ofBits_three]
  unfold votes
  refine Finset.sum_congr rfl fun s _ => ?_
  rw [hit_eq]
  norm_num

/-- The count of class 4. -/
theorem pay29_row (rd rc : FVec Ideal S128x16 .f32) (r : Fin 128) :
    k0_pay29 (F := Ideal) (k0_pay8 (F := Ideal) rd) (k0_pay9 (F := Ideal) rc) (ix2 r 0) = votes (row rd r) (row rc r) (((4 : ℕ) : ℝ) : EReal) := by
  pointwise [k0_pay29]
  simp only [pay9_row, pay8_row, ofBits_four]
  unfold votes
  refine Finset.sum_congr rfl fun s _ => ?_
  rw [hit_eq]
  norm_num

/-- The count of class 5. -/
theorem pay34_row (rd rc : FVec Ideal S128x16 .f32) (r : Fin 128) :
    k0_pay34 (F := Ideal) (k0_pay8 (F := Ideal) rd) (k0_pay9 (F := Ideal) rc) (ix2 r 0) = votes (row rd r) (row rc r) (((5 : ℕ) : ℝ) : EReal) := by
  pointwise [k0_pay34]
  simp only [pay9_row, pay8_row, ofBits_five]
  unfold votes
  refine Finset.sum_congr rfl fun s _ => ?_
  rw [hit_eq]
  norm_num

/-- The count of class 6. -/
theorem pay38_row (rd rc : FVec Ideal S128x16 .f32) (r : Fin 128) :
    k0_pay38 (F := Ideal) (k0_pay8 (F := Ideal) rd) (k0_pay9 (F := Ideal) rc) (ix2 r 0) = votes (row rd r) (row rc r) (((6 : ℕ) : ℝ) : EReal) := by
  pointwise [k0_pay38]
  simp only [pay9_row, pay8_row, ofBits_six]
  unfold votes
  refine Finset.sum_congr rfl fun s _ => ?_
  rw [hit_eq]
  norm_num

/-- The count of class 7. -/
theorem pay43_row (rd rc : FVec Ideal S128x16 .f32) (r : Fin 128) :
    k0_pay43 (F := Ideal) (k0_pay8 (F := Ideal) rd) (k0_pay9 (F := Ideal) rc) (ix2 r 0) = votes (row rd r) (row rc r) (((7 : ℕ) : ℝ) : EReal) := by
  pointwise [k0_pay43]
  simp only [pay9_row, pay8_row, ofBits_seven]
  unfold votes
  refine Finset.sum_congr rfl fun s _ => ?_
  rw [hit_eq]
  norm_num

/-- The count of class 8. -/
theorem pay2_row (rd rc : FVec Ideal S128x16 .f32) (r : Fin 128) :
    k0_pay2 (F := Ideal) (k0_pay8 (F := Ideal) rd) (k0_pay9 (F := Ideal) rc) (ix2 r 0) = votes (row rd r) (row rc r) (((8 : ℕ) : ℝ) : EReal) := by
  pointwise [k0_pay2]
  simp only [pay9_row, pay8_row, ofBits_eight]
  unfold votes
  refine Finset.sum_congr rfl fun s _ => ?_
  rw [hit_eq]
  norm_num

/-- The count of class 9. -/
theorem pay4_row (rd rc : FVec Ideal S128x16 .f32) (r : Fin 128) :
    k0_pay4 (F := Ideal) (k0_pay8 (F := Ideal) rd) (k0_pay9 (F := Ideal) rc) (ix2 r 0) = votes (row rd r) (row rc r) (((9 : ℕ) : ℝ) : EReal) := by
  pointwise [k0_pay4]
  simp only [pay9_row, pay8_row, ofBits_nine]
  unfold votes
  refine Finset.sum_congr rfl fun s _ => ?_
  rw [hit_eq]
  norm_num

/-- The named constant is one fifteenth. -/
theorem inv_k_eq : (Named.named (F := Ideal) κ "inv_k" (φ := .f32) 0x3D888889#32) = ((1 / 15 : ℝ) : EReal) :=
  IdealRules.named_const.ideal_named_scalar _ _ _ _ rfl

/-- The probability of class 0. -/
theorem pay12_row (rd rc : FVec Ideal S128x16 .f32) (r : Fin 128) :
    k0_pay12 (F := Ideal) rd rc (ix2 r 0) = votes (row rd r) (row rc r) (((0 : ℕ) : ℝ) : EReal) * ((1 / 15 : ℝ) : EReal) := by
  pointwise [k0_pay12]
  rw [pay11_row, inv_k_eq]

/-- The probability of class 1. -/
theorem pay16_row (rd rc : FVec Ideal S128x16 .f32) (r : Fin 128) :
    k0_pay16 (F := Ideal) rd rc (ix2 r 0) = votes (row rd r) (row rc r) (((1 : ℕ) : ℝ) : EReal) * ((1 / 15 : ℝ) : EReal) := by
  pointwise [k0_pay16]
  rw [pay15_row, inv_k_eq]

/-- The probability of class 2. -/
theorem pay22_row (rd rc : FVec Ideal S128x16 .f32) (r : Fin 128) :
    k0_pay22 (F := Ideal) (k0_pay8 (F := Ideal) rd) (k0_pay20 (F := Ideal) rc) (ix2 r 0) = votes (row rd r) (row rc r) (((2 : ℕ) : ℝ) : EReal) * ((1 / 15 : ℝ) : EReal) := by
  pointwise [k0_pay22]
  rw [pay21_row, inv_k_eq]

/-- The probability of class 3. -/
theorem pay26_row (rd rc : FVec Ideal S128x16 .f32) (r : Fin 128) :
    k0_pay26 (F := Ideal) (k0_pay8 (F := Ideal) rd) (k0_pay9 (F := Ideal) rc) (ix2 r 0) = votes (row rd r) (row rc r) (((3 : ℕ) : ℝ) : EReal) * ((1 / 15 : ℝ) : EReal) := by
  pointwise [k0_pay26]
  rw [pay25_row, inv_k_eq]

/-- The probability of class 4. -/
theorem pay30_row (rd rc : FVec Ideal S128x16 .f32) (r : Fin 128) :
    k0_pay30 (F := Ideal) (k0_pay8 (F := Ideal) rd) (k0_pay9 (F := Ideal) rc) (ix2 r 0) = votes (row rd r) (row rc r) (((4 : ℕ) : ℝ) : EReal) * ((1 / 15 : ℝ) : EReal) := by
  pointwise [k0_pay30]
  rw [pay29_row, inv_k_eq]

/-- The probability of class 5. -/
theorem pay35_row (rd rc : FVec Ideal S128x16 .f32) (r : Fin 128) :
    k0_pay35 (F := Ideal) (k0_pay8 (F := Ideal) rd) (k0_pay9 (F := Ideal) rc) (ix2 r 0) = votes (row rd r) (row rc r) (((5 : ℕ) : ℝ) : EReal) * ((1 / 15 : ℝ) : EReal) := by
  pointwise [k0_pay35]
  rw [pay34_row, inv_k_eq]

/-- The probability of class 6. -/
theorem pay39_row (rd rc : FVec Ideal S128x16 .f32) (r : Fin 128) :
    k0_pay39 (F := Ideal) (k0_pay8 (F := Ideal) rd) (k0_pay9 (F := Ideal) rc) (ix2 r 0) = votes (row rd r) (row rc r) (((6 : ℕ) : ℝ) : EReal) * ((1 / 15 : ℝ) : EReal) := by
  pointwise [k0_pay39]
  rw [pay38_row, inv_k_eq]

/-- The probability of class 7. -/
theorem pay44_row (rd rc : FVec Ideal S128x16 .f32) (r : Fin 128) :
    k0_pay44 (F := Ideal) (k0_pay8 (F := Ideal) rd) (k0_pay9 (F := Ideal) rc) (ix2 r 0) = votes (row rd r) (row rc r) (((7 : ℕ) : ℝ) : EReal) * ((1 / 15 : ℝ) : EReal) := by
  pointwise [k0_pay44]
  rw [pay43_row, inv_k_eq]

/-- The probability of class 8. -/
theorem pay3_row (rd rc : FVec Ideal S128x16 .f32) (r : Fin 128) :
    k0_pay3 (F := Ideal) (k0_pay8 (F := Ideal) rd) (k0_pay9 (F := Ideal) rc) (ix2 r 0) = votes (row rd r) (row rc r) (((8 : ℕ) : ℝ) : EReal) * ((1 / 15 : ℝ) : EReal) := by
  pointwise [k0_pay3]
  rw [pay2_row, inv_k_eq]

/-- The probability of class 9. -/
theorem pay5_row (rd rc : FVec Ideal S128x16 .f32) (r : Fin 128) :
    k0_pay5 (F := Ideal) (k0_pay8 (F := Ideal) rd) (k0_pay9 (F := Ideal) rc) (ix2 r 0) = votes (row rd r) (row rc r) (((9 : ℕ) : ℝ) : EReal) * ((1 / 15 : ℝ) : EReal) := by
  pointwise [k0_pay5]
  rw [pay4_row, inv_k_eq]

/-- The columns past the classes are zero. -/
theorem pay6_row (r : Fin 128) (s : Fin 6) : k0_pay6 (F := Ideal) (ix2 r s) = 0 := by
  pointwise [k0_pay6]

/-- The best count after one more class, chosen by selects on its two parts. -/
theorem step_fst (p q k c : EReal) : (voteStep (p, q) k c).1 = if p < k then k else p := by
  unfold voteStep; split <;> rfl

/-- The best class after one more class, chosen by selects on its two parts. -/
theorem step_snd (p q k c : EReal) : (voteStep (p, q) k c).2 = if p < k then c else q := by
  unfold voteStep; split <;> rfl

/-- One more class, by its two parts. -/
theorem step_eq (p q k c : EReal) : (if p < k then k else p, if p < k then c else q) = voteStep (p, q) k c := by
  unfold voteStep; split <;> rfl

/-- The vote over the first two classes. -/
theorem vote2 (rd rc : FVec Ideal S128x16 .f32) (r : Fin 128) :
    (k0_pay18 (F := Ideal) rd rc (ix2 r 0), k0_pay19 (F := Ideal) rd rc (ix2 r 0))
      = vote (fun c => votes (row rd r) (row rc r) ((c : ℝ) : EReal)) 2 := by
  pointwise [k0_pay18, k0_pay19, k0_pay17, k0_pay14, k0_pay13, k0_pay10]
  simp only [pay11_row, pay15_row, ofBits_neg_one, select_ofBool]
  change _ = voteStep (voteStep (((-1 : ℝ) : EReal), ((0 : ℝ) : EReal)) (votes (row rd r) (row rc r) (((0 : ℕ) : ℝ) : EReal)) (((0 : ℕ) : ℝ) : EReal))
    (votes (row rd r) (row rc r) (((1 : ℕ) : ℝ) : EReal)) (((1 : ℕ) : ℝ) : EReal)
  generalize votes (row rd r) (row rc r) (((0 : ℕ) : ℝ) : EReal) = k0
  generalize votes (row rd r) (row rc r) (((1 : ℕ) : ℝ) : EReal) = k1
  rw [← step_eq (((-1 : ℝ)) : EReal), ← step_eq]
  norm_num [ofBits_one]
  by_cases h0 : (-1 : EReal) < k0 <;> simp only [h0, if_true, if_false] <;> split_ifs <;> rfl

/-- The vote over the next three classes. -/
theorem vote5 (rd rc : FVec Ideal S128x16 .f32) (v77 v79 : FVec Ideal S128x1 .f32) (r : Fin 128)
    (h : (v77 (ix2 r 0), v79 (ix2 r 0)) = vote (fun c => votes (row rd r) (row rc r) ((c : ℝ) : EReal)) 2) :
    (k0_pay32 (F := Ideal) (k0_pay8 (F := Ideal) rd) (k0_pay9 (F := Ideal) rc) v77 (k0_pay20 (F := Ideal) rc) (ix2 r 0),
      k0_pay33 (F := Ideal) (k0_pay8 (F := Ideal) rd) (k0_pay9 (F := Ideal) rc) v77 v79 (k0_pay20 (F := Ideal) rc) (ix2 r 0))
      = vote (fun c => votes (row rd r) (row rc r) ((c : ℝ) : EReal)) 5 := by
  pointwise [k0_pay32, k0_pay33, k0_pay31, k0_pay28, k0_pay27, k0_pay24, k0_pay23]
  simp only [pay21_row, pay25_row, pay29_row, select_ofBool]
  change _ = voteStep (voteStep (voteStep (vote _ 2) (votes (row rd r) (row rc r) (((2 : ℕ) : ℝ) : EReal)) (((2 : ℕ) : ℝ) : EReal))
    (votes (row rd r) (row rc r) (((3 : ℕ) : ℝ) : EReal)) (((3 : ℕ) : ℝ) : EReal))
    (votes (row rd r) (row rc r) (((4 : ℕ) : ℝ) : EReal)) (((4 : ℕ) : ℝ) : EReal)
  rw [← h]
  generalize votes (row rd r) (row rc r) (((2 : ℕ) : ℝ) : EReal) = k2
  generalize votes (row rd r) (row rc r) (((3 : ℕ) : ℝ) : EReal) = k3
  generalize votes (row rd r) (row rc r) (((4 : ℕ) : ℝ) : EReal) = k4
  rw [← step_eq (v77 (ix2 r 0)), ← step_eq, ← step_eq]
  norm_num [ofBits_two, ofBits_three, ofBits_four]

/-- The vote over the last five classes, as the stored integer. -/
theorem vote10 (rd rc : FVec Ideal S128x16 .f32) (v122 v124 : FVec Ideal S128x1 .f32) (r : Fin 128)
    (h : (v122 (ix2 r 0), v124 (ix2 r 0)) = vote (fun c => votes (row rd r) (row rc r) ((c : ℝ) : EReal)) 5) :
    k0_pay7 (F := Ideal) (k0_pay8 (F := Ideal) rd) (k0_pay9 (F := Ideal) rc)
      (k0_pay42 (F := Ideal) (k0_pay8 (F := Ideal) rd) (k0_pay9 (F := Ideal) rc) v122 v124)
      (k0_pay45 (F := Ideal) (k0_pay8 (F := Ideal) rd) (k0_pay9 (F := Ideal) rc) v122)
      (k0_pay46 (F := Ideal) (k0_pay8 (F := Ideal) rd) (k0_pay9 (F := Ideal) rc) v122) (ix2 r 0)
      = Ideal.fptosi 32 (vote (fun c => votes (row rd r) (row rc r) ((c : ℝ) : EReal)) 10).2 := by
  pointwise [k0_pay7, k0_pay42, k0_pay45, k0_pay46, k0_pay41, k0_pay40, k0_pay37, k0_pay36]
  simp only [pay34_row, pay38_row, pay43_row, pay2_row, pay4_row, select_ofBool]
  change _ = Ideal.fptosi 32 (voteStep (voteStep (voteStep (voteStep (voteStep (vote _ 5)
    (votes (row rd r) (row rc r) (((5 : ℕ) : ℝ) : EReal)) (((5 : ℕ) : ℝ) : EReal))
    (votes (row rd r) (row rc r) (((6 : ℕ) : ℝ) : EReal)) (((6 : ℕ) : ℝ) : EReal))
    (votes (row rd r) (row rc r) (((7 : ℕ) : ℝ) : EReal)) (((7 : ℕ) : ℝ) : EReal))
    (votes (row rd r) (row rc r) (((8 : ℕ) : ℝ) : EReal)) (((8 : ℕ) : ℝ) : EReal))
    (votes (row rd r) (row rc r) (((9 : ℕ) : ℝ) : EReal)) (((9 : ℕ) : ℝ) : EReal)).2
  rw [← h]
  generalize votes (row rd r) (row rc r) (((5 : ℕ) : ℝ) : EReal) = k5
  generalize votes (row rd r) (row rc r) (((6 : ℕ) : ℝ) : EReal) = k6
  generalize votes (row rd r) (row rc r) (((7 : ℕ) : ℝ) : EReal) = k7
  generalize votes (row rd r) (row rc r) (((8 : ℕ) : ℝ) : EReal) = k8
  generalize votes (row rd r) (row rc r) (((9 : ℕ) : ℝ) : EReal) = k9
  rw [← step_eq (v122 (ix2 r 0)), ← step_eq, ← step_eq, ← step_eq, ← step_eq]
  norm_num [ofBits_five, ofBits_six, ofBits_seven, ofBits_eight, ofBits_nine]
  rfl

end Cert.KernelIdeal.Rows

end
-- ==== Proof.KernelIdeal.Host.lean ====
/- What the launch's arrays hold when it begins: the training points padded to whole blocks, and each point's code. -/
module

public import proofs.«01_k».proof.Proof.Gen.KernelIdeal.Frame
public import proofs.«01_k».proof.Proof.KernelIdeal.Base
public import proofs.«01_k».proof.Proof.KernelIdeal.Rows
public import Idealize.ShloMosaic.Lib.StableHlo.ReadAt
public import Idealize.ShloMosaic.Lib.Pipeline.ValueKit

@[expose] public section

set_option maxRecDepth 16384

noncomputable section

namespace Cert.KernelIdeal.Run

open Idealize.ShloMosaic Idealize.ShloMosaic.TcCoe Idealize.ShloMosaic.Pointwise
open Idealize.SL Idealize.SL.Sem
open Cert.KernelIdeal Cert.KernelIdeal.Gen Cert.KernelIdeal.Rows

/-- Coordinate `x` of padded training point `p`: past the real points every coordinate is a thousand. -/
def padded (tx : FVec Ideal S100000x16 .f32) (p : ℕ) (x : Fin 16) : EReal :=
  if h : p < 100000 then tx (ix2 ⟨p, h⟩ x) else ((1000 : ℝ) : EReal)

/-- The label of padded training point `p`: zero past the real points. -/
def label (y : IVec S100000 32) (p : ℕ) : ℕ :=
  if h : p < 100000 then (y (ix1 ⟨p, h⟩)).toNat else 0

/-- The code of padded training point `p`: its place in its block and its label in one number. -/
def code (y : IVec S100000 32) (p : ℕ) : EReal := (((16 * (p % 512) + label y p : ℕ) : ℝ) : EReal)

/-- The part of the squared distance from query `R` to padded training point `p` that depends on the point. -/
def dist (x : FVec Ideal S1024x16 .f32) (tx : FVec Ideal S100000x16 .f32) (R : Fin 1024) (p : ℕ) : EReal :=
  ∑ k, padded tx p k * padded tx p k - ((2 : ℝ) : EReal) * ∑ k, x (ix2 R k) * padded tx p k

/-- The pattern of a thousand. -/
theorem ofBits_thousand : FloatOps.ofBits (F := Ideal) .f32 1148846080#32 = ((1000 : ℝ) : EReal) := by
  show Ideal.ofBits .f32 1148846080#32 = _
  simp [Ideal.ofBits, Ideal.ieee, -EReal.coe_mul]
  norm_num

variable (m : (ℓ : Loc nD τ sig) → Buf (Elt Ideal) ℓ)

/-- The query argument. -/
abbrev argX (c : Dev nD) : FVec Ideal S1024x16 .f32 := m ((c : Thread nD τ).loc main_arg0)
/-- The training points argument. -/
abbrev argT (c : Dev nD) : FVec Ideal S100000x16 .f32 := m ((c : Thread nD τ).loc main_arg1)
/-- The labels argument. -/
abbrev argY (c : Dev nD) : IVec S100000 32 := m ((c : Thread nD τ).loc main_arg2)

/-- The padded training points at an index. -/
theorem tx_val (c : Dev nD) (p : Fin 100352) (x : Fin 16) :
    (V m c main_v0 : FVec Ideal S100352x16 .f32) (ix2 p x) = padded (argT m c) p.val x := by
  unfold padded
  unfold V V0
  simp only [List.flatten_cons, List.flatten_nil, List.append_nil]
  after_reads_at
  by_cases h : p.val < 100000
  · rw [dif_pos h, dif_pos h]
  · rw [dif_neg h, dif_neg h]
    exact ofBits_thousand

/-- A code as the kernel forms it: sixteen times the place plus the label, without overflow. -/
theorem code_int (j : ℕ) (hj : j < 512) (y : BitVec 32) (hy : y.toNat < 10) :
    FloatOps.sitofp (F := Ideal) .f32 (IntOp.addi (IntOp.muli (BitVec.ofNat 32 j) 16#32) y)
      = (((16 * j + y.toNat : ℕ) : ℝ) : EReal) := by
  have e : IntOp.addi (IntOp.muli (BitVec.ofNat 32 j) 16#32) y = BitVec.ofNat 32 (16 * j + y.toNat) := by
    apply BitVec.eq_of_toNat_eq
    show (BitVec.ofNat 32 j * 16#32 + y).toNat = _
    simp only [BitVec.toNat_add, BitVec.toNat_mul, BitVec.toNat_ofNat]
    omega
  rw [e, sitofp_ofNat _ (by omega)]

/-- The codes at an index. -/
theorem code_val (c : Dev nD) (hy : ∀ p, (argY m c (ix1 p)).toNat < 10) (b : Fin 196) (j : Fin 512) :
    (V m c main_v10 : FVec Ideal S196x1x512 .f32) (ix3 b 0 j) = code (argY m c) (512 * b.val + j.val) := by
  have key : (V m c main_v10 : FVec Ideal S196x1x512 .f32) (ix3 b 0 j)
      = FloatOps.sitofp (F := Ideal) .f32 (IntOp.addi (IntOp.muli (BitVec.ofNat 32 ((b.val * 512 + j.val) % 512)) 16#32)
          (if h : b.val * 512 + j.val < 100000 then argY m c (ix1 ⟨b.val * 512 + j.val, h⟩) else 0#32)) := by
    unfold V V0
    simp only [List.flatten_cons, List.flatten_nil, List.append_nil]
    after_reads_at
    rfl
  rw [key]
  have hm : (b.val * 512 + j.val) % 512 = j.val := by omega
  have hm' : (512 * b.val + j.val) % 512 = j.val := by omega
  unfold code label
  rw [hm, hm', mul_comm 512 b.val]
  by_cases h : b.val * 512 + j.val < 100000
  · rw [dif_pos h, dif_pos h]
    exact code_int _ j.isLt _ (hy _)
  · rw [dif_neg h, dif_neg h]
    exact (code_int _ j.isLt 0#32 (by decide)).trans rfl

theorem index0 : ∀ t : Fin cfg0.N, win0_0.index t = ![0, 0] := (by decide +kernel : ∀ t : Fin grid0.N, _)
theorem index1 : ∀ t : Fin cfg0.N, win0_1.index t = ![t.val / 8, 0] := (by decide +kernel : ∀ t : Fin grid0.N, _)
theorem index2 : ∀ t : Fin cfg0.N, win0_2.index t = ![t.val / 8, 0, 0] := (by decide +kernel : ∀ t : Fin grid0.N, _)

/-- The query block is the whole query array. -/
theorem iblk0_val (c : Dev nD) (t : Fin cfg0.N) (R : Fin 1024) (x : Fin 16) :
    (iblk m c 0 t : FVec Ideal S1024x16 .f32) (ix2 R x) = argX m c (ix2 R x) := by
  have e : (((cfg0.win 0).blk t).view.emb (ix2 R x) : S1024x16.Idx) = ix2 R x := by
    blk_ext [index0]
  have h : (iblk m c 0 t : FVec Ideal S1024x16 .f32) (ix2 R x)
      = (V m c main_arg0 : FVec Ideal S1024x16 .f32) (((cfg0.win 0).blk t).view.emb (ix2 R x)) := by
    blk_simp [iblk]
  rw [h, e, V_main_arg0]

/-- The training block at a point: its `j`-th point. -/
theorem iblk1_val (c : Dev nD) (t : Fin cfg0.N) (j : Fin 512) (x : Fin 16) :
    (iblk m c 1 t : FVec Ideal S512x16 .f32) (ix2 j x) = padded (argT m c) (512 * (t.val / 8) + j.val) x := by
  have hN : t.val < 1568 := t.isLt
  have hp : 512 * (t.val / 8) + j.val < 100352 := by omega
  have e : (((cfg0.win 1).blk t).view.emb (ix2 j x) : S100352x16.Idx) = ix2 ⟨512 * (t.val / 8) + j.val, hp⟩ x := by
    blk_ext [index1]
  have h : (iblk m c 1 t : FVec Ideal S512x16 .f32) (ix2 j x)
      = (V m c main_v0 : FVec Ideal S100352x16 .f32) (((cfg0.win 1).blk t).view.emb (ix2 j x)) := by
    blk_simp [iblk]
  rw [h, e, tx_val]

/-- The code block at a point: the code of its `j`-th point. -/
theorem iblk2_val (c : Dev nD) (hy : ∀ p, (argY m c (ix1 p)).toNat < 10) (t : Fin cfg0.N) (j : Fin 512) :
    (iblk m c 2 t : FVec Ideal S1x1x512 .f32) (ix3 0 0 j) = code (argY m c) (512 * (t.val / 8) + j.val) := by
  have hN : t.val < 1568 := t.isLt
  have hb : t.val / 8 < 196 := by omega
  have e : (((cfg0.win 2).blk t).view.emb (ix3 0 0 j) : S196x1x512.Idx) = ix3 ⟨t.val / 8, hb⟩ 0 j := by
    blk_ext [index2]
  have h : (iblk m c 2 t : FVec Ideal S1x1x512 .f32) (ix3 0 0 j)
      = (V m c main_v10 : FVec Ideal S196x1x512 .f32) (((cfg0.win 2).blk t).view.emb (ix3 0 0 j)) := by
    blk_simp [iblk]
  rw [h, e, code_val m c hy]

end Cert.KernelIdeal.Run

end
-- ==== Proof.KernelIdeal.LoopValue.lean ====
/- The extraction loop's values, one trip at a time. -/
module

public import proofs.«01_k».proof.Proof.Gen.KernelIdeal.Loops
public import proofs.«01_k».proof.Proof.KernelIdeal.Rows
public import Idealize.ShloMosaic.Lib.Pipeline.ValueKit

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI Idealize.SL.Sem
open Cert.KernelIdeal Cert.KernelIdeal.Gen

variable {F : FTy → Type} [FloatOps F] [Named F]

theorem zero2 : ∀ a : Fin 2, (![0, 0] : Fin 2 → ℕ) a = 0 := by decide

/-- A whole write, last, is what is read afterwards. -/
theorem read_writes_whole {sig' : RefSig} {κ : Kind} {sp : Space} {S : Shape} {e : EltTy} {Val : EltTy → Type}
    (v : View sig' κ sp S e) (g : v.ty.Contents Val) {off : Fin S.rank → ℕ} (h : off = fun _ => 0) {inb : ∀ a, off a + S.size a ≤ S.size a}
    (w : S.Idx → Val e) (L : List (View.Piece Val S e)) :
    v.read Val (v.writes Val g (⟨Rect.unit off S.size inb, w⟩ :: L)) = w := by
  subst h
  funext y
  have e := View.read_writes_cons_emb (v := v) (f := g) (Rect.whole S) w L y
  rw [Rect.emb_whole_apply] at e
  exact e

/-- A write of some rows, last, read at one of them. -/
theorem read_writes_row {sig' : RefSig} {κ : Kind} {sp : Space} {S : Shape} {e : EltTy} {Val : EltTy → Type}
    (v : View sig' κ sp S e) (g : v.ty.Contents Val) {off size : Fin S.rank → ℕ} {inb : ∀ a, off a + size a ≤ S.size a}
    (w : (Rect.unit off size inb).shape.Idx → Val e) (L : List (View.Piece Val S e)) (y : S.Idx) (x : (Rect.unit off size inb).shape.Idx)
    (h : ∀ a, (y a).val = off a + (x a).val) :
    v.read Val (v.writes Val g (⟨Rect.unit off size inb, w⟩ :: L)) y = w x := by
  have : (Rect.unit off size inb).emb x = y := by
    funext a; apply Fin.ext; rw [h a]
    show off a + 1 * (x a).val = _
    omega
  rw [← this]
  exact View.read_writes_cons_emb (v := v) (f := g) _ w L x

/-- A write of some rows and columns, last, of a matrix, read at one of its places. -/
theorem read_writes_row2 {sig' : RefSig} {κ : Kind} {sp : Space} {n m a b : ℕ} {e : EltTy} {Val : EltTy → Type}
    (v : View sig' κ sp ⟨2, ![n, m]⟩ e) (g : v.ty.Contents Val) {off : Fin 2 → ℕ} {inb : ∀ x, off x + (![a, b] : Fin 2 → ℕ) x ≤ (![n, m] : Fin 2 → ℕ) x}
    (w : (⟨2, ![a, b]⟩ : Shape).Idx → Val e) (L : List (View.Piece Val ⟨2, ![n, m]⟩ e)) (R : Fin n) (s : Fin m) (r : Fin a) (t : Fin b)
    (h0 : R.val = off 0 + r.val) (h1 : s.val = off 1 + t.val) :
    v.read Val (v.writes Val g (⟨Rect.unit (s := ⟨2, ![n, m]⟩) off ![a, b] inb, w⟩ :: L)) (ix2 R s) = w (ix2 r t) :=
  read_writes_row v g w L (ix2 R s) (ix2 r t) (Fin.forall_fin_two.2 ⟨h0, h1⟩)

/-- What a trip yields. -/
theorem tripR_eq (𝒱 : Variants) (c : Dev nD) (bd : Option 𝒱.V) (i : grid0.Coords) (arg2 : Memref sig .tc .vmem S1024x16 .f32) (harg2 : arg2.IsWhole) (arg3 : Memref sig .tc .vmem S512x16 .f32) (harg3 : arg3.IsWhole) (arg4 : Memref sig .tc .vmem S1x1x512 .f32) (harg4 : arg4.IsWhole) (arg5 : Memref sig .tc .vmem S1024x16 .f32) (harg5 : arg5.IsWhole) (arg6 : Memref sig .tc .vmem S1024x1 .i32) (harg6 : arg6.IsWhole) (arg7 : Memref sig .tc .vmem S1024x16 .f32) (harg7 : arg7.IsWhole) (arg8 : Memref sig .tc .vmem S1024x16 .f32) (harg8 : arg8.IsWhole) (arg9 : Memref sig .tc .vmem S128x512 .f32) (harg9 : arg9.IsWhole) (v8 : Vec F S1x1x512 .f32) (k : Fin k0_t1_loop.trips) (acc : Vec F S128x16 .f32 × Vec F S128x16 .f32) (f : BufTy.Contents (Elt F) arg9.view.ty) :
    tripR_k0_t1 (F := F) 𝒱 c bd i arg2 harg2 arg3 harg3 arg4 harg4 arg5 harg5 arg6 harg6 arg7 harg7 arg8 harg8 arg9 harg9 v8 k acc f
      = (k0_pay57 acc.1 (View.read (Elt F) arg9.view f), k0_pay58 v8 acc.1 acc.2 (View.read (Elt F) arg9.view f)) := by
  unfold tripR_k0_t1 trip_k0_t1; dsimp only; sl_unfold_words
  simp only [View.readAt_eq_ld, View.ld_unit_zero (S := S128x512) (funext zero2)]

/-- What a trip writes. -/
theorem tripL_eq (𝒱 : Variants) (c : Dev nD) (bd : Option 𝒱.V) (i : grid0.Coords) (arg2 : Memref sig .tc .vmem S1024x16 .f32) (harg2 : arg2.IsWhole) (arg3 : Memref sig .tc .vmem S512x16 .f32) (harg3 : arg3.IsWhole) (arg4 : Memref sig .tc .vmem S1x1x512 .f32) (harg4 : arg4.IsWhole) (arg5 : Memref sig .tc .vmem S1024x16 .f32) (harg5 : arg5.IsWhole) (arg6 : Memref sig .tc .vmem S1024x1 .i32) (harg6 : arg6.IsWhole) (arg7 : Memref sig .tc .vmem S1024x16 .f32) (harg7 : arg7.IsWhole) (arg8 : Memref sig .tc .vmem S1024x16 .f32) (harg8 : arg8.IsWhole) (arg9 : Memref sig .tc .vmem S128x512 .f32) (harg9 : arg9.IsWhole) (v8 : Vec F S1x1x512 .f32) (k : Fin k0_t1_loop.trips) (acc : Vec F S128x16 .f32 × Vec F S128x16 .f32) (f g : BufTy.Contents (Elt F) arg9.view.ty) (L : List (View.Piece (Elt F) S128x512 .f32)) :
    View.read (Elt F) arg9.view (arg9.view.writes (Elt F) g (tripL_k0_t1 (F := F) 𝒱 c bd i arg2 harg2 arg3 harg3 arg4 harg4 arg5 harg5 arg6 harg6 arg7 harg7 arg8 harg8 arg9 harg9 v8 k acc f ++ L))
      = k0_pay55 v8 acc.1 (View.read (Elt F) arg9.view f) := by
  unfold tripL_k0_t1 trip_k0_t1; dsimp only; sl_unfold_words
  rw [List.cons_append, read_writes_whole _ _ (funext zero2)]
  simp only [View.readAt_eq_ld, View.ld_unit_zero (S := S128x512) (funext zero2)]

/-- A write of some rows, last, read off them. -/
theorem read_writes_off {sig' : RefSig} {κ : Kind} {sp : Space} {S : Shape} {e : EltTy} {Val : EltTy → Type}
    (v : View sig' κ sp S e) (g : v.ty.Contents Val) {off size : Fin S.rank → ℕ} {inb : ∀ a, off a + size a ≤ S.size a}
    (w : (Rect.unit off size inb).shape.Idx → Val e) (L : List (View.Piece Val S e)) (y : S.Idx) (a : Fin S.rank)
    (h : (y a).val < off a ∨ off a + size a ≤ (y a).val) :
    v.read Val (v.writes Val g (⟨Rect.unit off size inb, w⟩ :: L)) y = v.read Val (v.writes Val g L) y := by
  exact View.read_writes_cons_miss_of_axis v g _ L y a (off a) (size a) rfl rfl rfl h

open Cert.KernelIdeal.Rows Cert.Select

/-- The fifteen trips take a row that has seen the points below `n` to one that has seen the block too. -/
theorem loop_between (𝒱 : Variants) (c : Dev nD) (bd : Option 𝒱.V) (i : grid0.Coords) (arg2 : Memref sig .tc .vmem S1024x16 .f32) (harg2 : arg2.IsWhole) (arg3 : Memref sig .tc .vmem S512x16 .f32) (harg3 : arg3.IsWhole) (arg4 : Memref sig .tc .vmem S1x1x512 .f32) (harg4 : arg4.IsWhole) (arg5 : Memref sig .tc .vmem S1024x16 .f32) (harg5 : arg5.IsWhole) (arg6 : Memref sig .tc .vmem S1024x1 .i32) (harg6 : arg6.IsWhole) (arg7 : Memref sig .tc .vmem S1024x16 .f32) (harg7 : arg7.IsWhole) (arg8 : Memref sig .tc .vmem S1024x16 .f32) (harg8 : arg8.IsWhole) (arg9 : Memref sig .tc .vmem S128x512 .f32) (harg9 : arg9.IsWhole) (v8 : Vec Ideal S1x1x512 .f32) (G : BufTy.Contents (Elt Ideal) arg9.view.ty) (init : Vec Ideal S128x16 .f32 × Vec Ideal S128x16 .f32)
    (r : Fin 128) (D cd : ℕ → EReal) (n : ℕ) (hcode : ∀ j : Fin 512, v8 (ix3 0 0 j) = cd (n + j.val))
    (hinj : Function.Injective fun j : Fin 512 => v8 (ix3 0 0 j)) (hbig : ∀ j : Fin 512, v8 (ix3 0 0 j) < big)
    (hD : ∀ j : Fin 512, View.read (Elt Ideal) arg9.view G (ix2 r j) = D (n + j.val))
    (h0 : Between D cd n (row init.1 r) (row init.2 r)) :
    Between D cd (n + 512)
      (row (st_k0_t1 (F := Ideal) 𝒱 c bd i arg2 harg2 arg3 harg3 arg4 harg4 arg5 harg5 arg6 harg6 arg7 harg7 arg8 harg8 arg9 harg9 v8 G init k0_t1_loop.trips).1.1 r)
      (row (st_k0_t1 (F := Ideal) 𝒱 c bd i arg2 harg2 arg3 harg3 arg4 harg4 arg5 harg5 arg6 harg6 arg7 harg7 arg8 harg8 arg9 harg9 v8 G init k0_t1_loop.trips).1.2 r) := by
  have hslot : ∀ s : Fin 16, ((s.val : ℝ) : EReal) < big := fun s => by
    rw [big_eq]; exact EReal.coe_lt_coe_iff.2 (by have : (s.val : ℝ) < 16 := by exact_mod_cast s.isLt
                                                  linarith)
  have key : ∀ k : ℕ, k ≤ 15 → Inside D cd n k
      (row (st_k0_t1 (F := Ideal) 𝒱 c bd i arg2 harg2 arg3 harg3 arg4 harg4 arg5 harg5 arg6 harg6 arg7 harg7 arg8 harg8 arg9 harg9 v8 G init k).1.1 r)
      (row (st_k0_t1 (F := Ideal) 𝒱 c bd i arg2 harg2 arg3 harg3 arg4 harg4 arg5 harg5 arg6 harg6 arg7 harg7 arg8 harg8 arg9 harg9 v8 G init k).1.2 r)
      (row (View.read (Elt Ideal) arg9.view (arg9.view.writes (Elt Ideal) G (st_k0_t1 (F := Ideal) 𝒱 c bd i arg2 harg2 arg3 harg3 arg4 harg4 arg5 harg5 arg6 harg6 arg7 harg7 arg8 harg8 arg9 harg9 v8 G init k).2)) r) := by
    intro k
    induction k with
    | zero => intro _; exact inside_zero D cd n _ _ _ h0 hD
    | succ k ih =>
      intro hk
      have hi := ih (by omega)
      have hs := st_k0_t1_succ (F := Ideal) 𝒱 c bd i arg2 harg2 arg3 harg3 arg4 harg4 arg5 harg5 arg6 harg6 arg7 harg7 arg8 harg8 arg9 harg9 v8 G init ⟨k, hk⟩
      dsimp only at hs
      rw [hs]; clear hs
      generalize (st_k0_t1 (F := Ideal) 𝒱 c bd i arg2 harg2 arg3 harg3 arg4 harg4 arg5 harg5 arg6 harg6 arg7 harg7 arg8 harg8 arg9 harg9 v8 G init k) = st at hi ⊢
      dsimp only
      rw [tripR_eq, tripL_eq]
      have := inside_succ D cd big (fun j => v8 (ix3 0 0 j)) n k _ _ _ hcode hinj hbig hslot (by omega) hi
      convert this using 1
      · funext j; exact pay57_row _ _ r j
      · funext j; exact pay58_row _ _ _ _ r j
      · funext j; exact pay55_row _ _ _ r j
  exact between_of_inside D cd n _ _ _ (key 15 le_rfl)

end Cert.KernelIdeal.Run

end
-- ==== Proof.KernelIdeal.BodyValue.lean ====
/- What the kernel's body leaves, in each of its three cases. -/
module

public import proofs.«01_k».proof.Proof.KernelIdeal.RunC
public import proofs.«01_k».proof.Proof.KernelIdeal.LoopValue

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI Idealize.SL.Sem
open Cert.KernelIdeal Cert.KernelIdeal.Gen

/-- The rows of a band, of an array of queries. -/
def band (i : grid0.Coords) (X : Vec Ideal S1024x16 .f32) : Vec Ideal S128x16 .f32 :=
  View.ld X (Rect.unit (s := S1024x16) (k0_off2 i) S128x16.size (k0_off2_inb i))

/-- What a band holds after a visit to a block, from what it held. -/
def fin (c : Dev nD) (i : grid0.Coords) (arg2 : Memref sig .tc .vmem S1024x16 .f32) (harg2 : arg2.IsWhole) (arg3 : Memref sig .tc .vmem S512x16 .f32) (harg3 : arg3.IsWhole) (arg4 : Memref sig .tc .vmem S1x1x512 .f32) (harg4 : arg4.IsWhole) (arg5 : Memref sig .tc .vmem S1024x16 .f32) (harg5 : arg5.IsWhole) (arg6 : Memref sig .tc .vmem S1024x1 .i32) (harg6 : arg6.IsWhole) (arg7 : Memref sig .tc .vmem S1024x16 .f32) (harg7 : arg7.IsWhole) (arg8 : Memref sig .tc .vmem S1024x16 .f32) (harg8 : arg8.IsWhole) (arg9 : Memref sig .tc .vmem S128x512 .f32) (harg9 : arg9.IsWhole) (x0 : Vec Ideal S1024x16 .f32) (x1 : Vec Ideal S512x16 .f32) (x2 : Vec Ideal S1x1x512 .f32) (init : Vec Ideal S128x16 .f32 × Vec Ideal S128x16 .f32) : Vec Ideal S128x16 .f32 × Vec Ideal S128x16 .f32 :=
  (st_k0_t1 (F := Ideal) Variants.none c none i arg2 harg2 arg3 harg3 arg4 harg4 arg5 harg5 arg6 harg6 arg7 harg7 arg8 harg8 arg9 harg9 x2
    (arg9.view.writes (Elt Ideal) arg9.view.junk [⟨Rect.unit (s := S128x512) ![0, 0] S128x512.size inb_S128x512_S128x512_0_0, k0_pay50 (F := Ideal) (band i x0) x1⟩]) init k0_t1_loop.trips).1

/-- A load where the last store stood reads what it stored. -/
theorem readCov_same {sig' : RefSig} {κ : Kind} {sp : Space} {S : Shape} {e : EltTy}
    (v : View sig' κ sp S e) {off off' size : Fin S.rank → ℕ} (ho : off = off') {inb : ∀ a, off a + size a ≤ S.size a}
    {inb' : ∀ a, off' a + size a ≤ S.size a} (w : (Rect.unit off size inb).shape.Idx → Elt Ideal e) (L : List (View.Piece (Elt Ideal) S e)) :
    v.readCov (⟨Rect.unit off size inb, w⟩ :: L) (Rect.unit off' size inb').toLoadRect = w := by
  subst ho
  funext x
  exact View.read_writes_cons_emb (v := v) (f := v.junk) (Rect.unit off size inb) w L x

theorem off1_eq (i : grid0.Coords) : k0_off1 i = k0_off2 i := rfl

theorem zero3 : ∀ a : Fin 3, (![0, 0, 0] : Fin 3 → ℕ) a = 0 := by decide

theorem runA_v24 (c : Dev nD) (i : grid0.Coords) (arg2 : Memref sig .tc .vmem S1024x16 .f32) (harg2 : arg2.IsWhole) (arg3 : Memref sig .tc .vmem S512x16 .f32) (harg3 : arg3.IsWhole) (arg4 : Memref sig .tc .vmem S1x1x512 .f32) (harg4 : arg4.IsWhole) (arg5 : Memref sig .tc .vmem S1024x16 .f32) (harg5 : arg5.IsWhole) (arg6 : Memref sig .tc .vmem S1024x1 .i32) (harg6 : arg6.IsWhole) (arg7 : Memref sig .tc .vmem S1024x16 .f32) (harg7 : arg7.IsWhole) (arg8 : Memref sig .tc .vmem S1024x16 .f32) (harg8 : arg8.IsWhole) (arg9 : Memref sig .tc .vmem S128x512 .f32) (harg9 : arg9.IsWhole) (hc0 : atFirst i) : runA.sl.v24 (F := Ideal) c i arg7 hc0 = k0_pay47 (F := Ideal) := by
  unfold runA.sl.v24 runA.sl.HS0_1
  exact readCov_same _ (off1_eq i) _ _

theorem runA_v26 (c : Dev nD) (i : grid0.Coords) (arg2 : Memref sig .tc .vmem S1024x16 .f32) (harg2 : arg2.IsWhole) (arg3 : Memref sig .tc .vmem S512x16 .f32) (harg3 : arg3.IsWhole) (arg4 : Memref sig .tc .vmem S1x1x512 .f32) (harg4 : arg4.IsWhole) (arg5 : Memref sig .tc .vmem S1024x16 .f32) (harg5 : arg5.IsWhole) (arg6 : Memref sig .tc .vmem S1024x1 .i32) (harg6 : arg6.IsWhole) (arg7 : Memref sig .tc .vmem S1024x16 .f32) (harg7 : arg7.IsWhole) (arg8 : Memref sig .tc .vmem S1024x16 .f32) (harg8 : arg8.IsWhole) (arg9 : Memref sig .tc .vmem S128x512 .f32) (harg9 : arg9.IsWhole) (hc0 : atFirst i) : runA.sl.v26 (F := Ideal) c i arg8 hc0 = k0_pay48 (F := Ideal) := by
  unfold runA.sl.v26 runA.sl.HS1_1
  exact readCov_same _ (off1_eq i) _ _

/-- What case A stores of the distances. -/
theorem runA_s0 (c : Dev nD) (i : grid0.Coords) (arg2 : Memref sig .tc .vmem S1024x16 .f32) (harg2 : arg2.IsWhole) (arg3 : Memref sig .tc .vmem S512x16 .f32) (harg3 : arg3.IsWhole) (arg4 : Memref sig .tc .vmem S1x1x512 .f32) (harg4 : arg4.IsWhole) (arg5 : Memref sig .tc .vmem S1024x16 .f32) (harg5 : arg5.IsWhole) (arg6 : Memref sig .tc .vmem S1024x1 .i32) (harg6 : arg6.IsWhole) (arg7 : Memref sig .tc .vmem S1024x16 .f32) (harg7 : arg7.IsWhole) (arg8 : Memref sig .tc .vmem S1024x16 .f32) (harg8 : arg8.IsWhole) (arg9 : Memref sig .tc .vmem S128x512 .f32) (harg9 : arg9.IsWhole) (hc0 : atFirst i) (hc1 : ¬atLast i) (x0 : Vec Ideal S1024x16 .f32) (x1 : Vec Ideal S512x16 .f32) (x2 : Vec Ideal S1x1x512 .f32) (x3 : Vec Ideal S1024x16 .f32) (x4 : Vec Ideal S1024x1 .i32) (xs0 xs1 : Vec Ideal S1024x16 .f32) :
    (runA (F := Ideal) c i arg2 harg2 arg3 harg3 arg4 harg4 arg5 harg5 arg6 harg6 arg7 harg7 arg8 harg8 arg9 harg9 hc0 hc1 x0 x1 x2 x3 x4 xs0 xs1).1 = [⟨Rect.unit (s := S1024x16) (k0_off2 i) S128x16.size (k0_off2_inb i), k0_pay59 (F := Ideal) (fin c i arg2 harg2 arg3 harg3 arg4 harg4 arg5 harg5 arg6 harg6 arg7 harg7 arg8 harg8 arg9 harg9 x0 x1 x2 (k0_pay47 (F := Ideal), k0_pay48 (F := Ideal))).1⟩, ⟨Rect.unit (s := S1024x16) (k0_off1 i) S128x16.size (k0_off1_inb i hc0), k0_pay47 (F := Ideal)⟩] := by
  unfold runA; dsimp only; rw [runA_v24 c i arg2 harg2 arg3 harg3 arg4 harg4 arg5 harg5 arg6 harg6 arg7 harg7 arg8 harg8 arg9 harg9 hc0, runA_v26 c i arg2 harg2 arg3 harg3 arg4 harg4 arg5 harg5 arg6 harg6 arg7 harg7 arg8 harg8 arg9 harg9 hc0]; sl_unfold_words
  simp only [View.readAt_eq_ld, harg2.read_unread, harg3.read_unread, harg4.read_unread, harg7.read_unread, harg8.read_unread,
    View.ld_unit_zero (S := S512x16) (funext zero2), View.ld_unit_zero (S := S1x1x512) (funext zero3)]
  rfl

/-- What case A stores of the codes. -/
theorem runA_s1 (c : Dev nD) (i : grid0.Coords) (arg2 : Memref sig .tc .vmem S1024x16 .f32) (harg2 : arg2.IsWhole) (arg3 : Memref sig .tc .vmem S512x16 .f32) (harg3 : arg3.IsWhole) (arg4 : Memref sig .tc .vmem S1x1x512 .f32) (harg4 : arg4.IsWhole) (arg5 : Memref sig .tc .vmem S1024x16 .f32) (harg5 : arg5.IsWhole) (arg6 : Memref sig .tc .vmem S1024x1 .i32) (harg6 : arg6.IsWhole) (arg7 : Memref sig .tc .vmem S1024x16 .f32) (harg7 : arg7.IsWhole) (arg8 : Memref sig .tc .vmem S1024x16 .f32) (harg8 : arg8.IsWhole) (arg9 : Memref sig .tc .vmem S128x512 .f32) (harg9 : arg9.IsWhole) (hc0 : atFirst i) (hc1 : ¬atLast i) (x0 : Vec Ideal S1024x16 .f32) (x1 : Vec Ideal S512x16 .f32) (x2 : Vec Ideal S1x1x512 .f32) (x3 : Vec Ideal S1024x16 .f32) (x4 : Vec Ideal S1024x1 .i32) (xs0 xs1 : Vec Ideal S1024x16 .f32) :
    (runA (F := Ideal) c i arg2 harg2 arg3 harg3 arg4 harg4 arg5 harg5 arg6 harg6 arg7 harg7 arg8 harg8 arg9 harg9 hc0 hc1 x0 x1 x2 x3 x4 xs0 xs1).2.1 = [⟨Rect.unit (s := S1024x16) (k0_off2 i) S128x16.size (k0_off2_inb i), k0_pay1 (F := Ideal) (fin c i arg2 harg2 arg3 harg3 arg4 harg4 arg5 harg5 arg6 harg6 arg7 harg7 arg8 harg8 arg9 harg9 x0 x1 x2 (k0_pay47 (F := Ideal), k0_pay48 (F := Ideal))).2⟩, ⟨Rect.unit (s := S1024x16) (k0_off1 i) S128x16.size (k0_off1_inb i hc0), k0_pay48 (F := Ideal)⟩] := by
  unfold runA; dsimp only; unfold runA.sl.r_1; rw [runA_v24 c i arg2 harg2 arg3 harg3 arg4 harg4 arg5 harg5 arg6 harg6 arg7 harg7 arg8 harg8 arg9 harg9 hc0, runA_v26 c i arg2 harg2 arg3 harg3 arg4 harg4 arg5 harg5 arg6 harg6 arg7 harg7 arg8 harg8 arg9 harg9 hc0]; sl_unfold_words
  simp only [View.readAt_eq_ld, harg2.read_unread, harg3.read_unread, harg4.read_unread, harg7.read_unread, harg8.read_unread,
    View.ld_unit_zero (S := S512x16) (funext zero2), View.ld_unit_zero (S := S1x1x512) (funext zero3)]
  rfl

/-- What case B stores of the distances. -/
theorem runB_s0 (c : Dev nD) (i : grid0.Coords) (arg2 : Memref sig .tc .vmem S1024x16 .f32) (harg2 : arg2.IsWhole) (arg3 : Memref sig .tc .vmem S512x16 .f32) (harg3 : arg3.IsWhole) (arg4 : Memref sig .tc .vmem S1x1x512 .f32) (harg4 : arg4.IsWhole) (arg5 : Memref sig .tc .vmem S1024x16 .f32) (harg5 : arg5.IsWhole) (arg6 : Memref sig .tc .vmem S1024x1 .i32) (harg6 : arg6.IsWhole) (arg7 : Memref sig .tc .vmem S1024x16 .f32) (harg7 : arg7.IsWhole) (arg8 : Memref sig .tc .vmem S1024x16 .f32) (harg8 : arg8.IsWhole) (arg9 : Memref sig .tc .vmem S128x512 .f32) (harg9 : arg9.IsWhole) (hc0 : ¬atFirst i) (hc1 : ¬atLast i) (x0 : Vec Ideal S1024x16 .f32) (x1 : Vec Ideal S512x16 .f32) (x2 : Vec Ideal S1x1x512 .f32) (x3 : Vec Ideal S1024x16 .f32) (x4 : Vec Ideal S1024x1 .i32) (xs0 xs1 : Vec Ideal S1024x16 .f32) :
    (runB (F := Ideal) c i arg2 harg2 arg3 harg3 arg4 harg4 arg5 harg5 arg6 harg6 arg7 harg7 arg8 harg8 arg9 harg9 hc0 hc1 x0 x1 x2 x3 x4 xs0 xs1).1 = [⟨Rect.unit (s := S1024x16) (k0_off2 i) S128x16.size (k0_off2_inb i), k0_pay59 (F := Ideal) (fin c i arg2 harg2 arg3 harg3 arg4 harg4 arg5 harg5 arg6 harg6 arg7 harg7 arg8 harg8 arg9 harg9 x0 x1 x2 (band i xs0, band i xs1)).1⟩] := by
  unfold runB; dsimp only; sl_unfold_words
  simp only [View.readAt_eq_ld, harg2.read_unread, harg3.read_unread, harg4.read_unread, harg7.read_unread, harg8.read_unread,
    View.ld_unit_zero (S := S512x16) (funext zero2), View.ld_unit_zero (S := S1x1x512) (funext zero3)]
  rfl

/-- What case B stores of the codes. -/
theorem runB_s1 (c : Dev nD) (i : grid0.Coords) (arg2 : Memref sig .tc .vmem S1024x16 .f32) (harg2 : arg2.IsWhole) (arg3 : Memref sig .tc .vmem S512x16 .f32) (harg3 : arg3.IsWhole) (arg4 : Memref sig .tc .vmem S1x1x512 .f32) (harg4 : arg4.IsWhole) (arg5 : Memref sig .tc .vmem S1024x16 .f32) (harg5 : arg5.IsWhole) (arg6 : Memref sig .tc .vmem S1024x1 .i32) (harg6 : arg6.IsWhole) (arg7 : Memref sig .tc .vmem S1024x16 .f32) (harg7 : arg7.IsWhole) (arg8 : Memref sig .tc .vmem S1024x16 .f32) (harg8 : arg8.IsWhole) (arg9 : Memref sig .tc .vmem S128x512 .f32) (harg9 : arg9.IsWhole) (hc0 : ¬atFirst i) (hc1 : ¬atLast i) (x0 : Vec Ideal S1024x16 .f32) (x1 : Vec Ideal S512x16 .f32) (x2 : Vec Ideal S1x1x512 .f32) (x3 : Vec Ideal S1024x16 .f32) (x4 : Vec Ideal S1024x1 .i32) (xs0 xs1 : Vec Ideal S1024x16 .f32) :
    (runB (F := Ideal) c i arg2 harg2 arg3 harg3 arg4 harg4 arg5 harg5 arg6 harg6 arg7 harg7 arg8 harg8 arg9 harg9 hc0 hc1 x0 x1 x2 x3 x4 xs0 xs1).2.1 = [⟨Rect.unit (s := S1024x16) (k0_off2 i) S128x16.size (k0_off2_inb i), k0_pay1 (F := Ideal) (fin c i arg2 harg2 arg3 harg3 arg4 harg4 arg5 harg5 arg6 harg6 arg7 harg7 arg8 harg8 arg9 harg9 x0 x1 x2 (band i xs0, band i xs1)).2⟩] := by
  unfold runB; dsimp only; sl_unfold_words
  simp only [View.readAt_eq_ld, harg2.read_unread, harg3.read_unread, harg4.read_unread, harg7.read_unread, harg8.read_unread,
    View.ld_unit_zero (S := S512x16) (funext zero2), View.ld_unit_zero (S := S1x1x512) (funext zero3)]
  rfl

/-- What case C stores of the distances. -/
theorem runC_s0 (c : Dev nD) (i : grid0.Coords) (arg2 : Memref sig .tc .vmem S1024x16 .f32) (harg2 : arg2.IsWhole) (arg3 : Memref sig .tc .vmem S512x16 .f32) (harg3 : arg3.IsWhole) (arg4 : Memref sig .tc .vmem S1x1x512 .f32) (harg4 : arg4.IsWhole) (arg5 : Memref sig .tc .vmem S1024x16 .f32) (harg5 : arg5.IsWhole) (arg6 : Memref sig .tc .vmem S1024x1 .i32) (harg6 : arg6.IsWhole) (arg7 : Memref sig .tc .vmem S1024x16 .f32) (harg7 : arg7.IsWhole) (arg8 : Memref sig .tc .vmem S1024x16 .f32) (harg8 : arg8.IsWhole) (arg9 : Memref sig .tc .vmem S128x512 .f32) (harg9 : arg9.IsWhole) (hc0 : ¬atFirst i) (hc1 : atLast i) (x0 : Vec Ideal S1024x16 .f32) (x1 : Vec Ideal S512x16 .f32) (x2 : Vec Ideal S1x1x512 .f32) (x3 : Vec Ideal S1024x16 .f32) (x4 : Vec Ideal S1024x1 .i32) (xs0 xs1 : Vec Ideal S1024x16 .f32) :
    (runC (F := Ideal) c i arg2 harg2 arg3 harg3 arg4 harg4 arg5 harg5 arg6 harg6 arg7 harg7 arg8 harg8 arg9 harg9 hc0 hc1 x0 x1 x2 x3 x4 xs0 xs1).2.2.1 = [⟨Rect.unit (s := S1024x16) (k0_off2 i) S128x16.size (k0_off2_inb i), k0_pay59 (F := Ideal) (fin c i arg2 harg2 arg3 harg3 arg4 harg4 arg5 harg5 arg6 harg6 arg7 harg7 arg8 harg8 arg9 harg9 x0 x1 x2 (band i xs0, band i xs1)).1⟩] := by
  unfold runC; dsimp only; sl_unfold_words
  simp only [View.readAt_eq_ld, harg2.read_unread, harg3.read_unread, harg4.read_unread, harg7.read_unread, harg8.read_unread,
    View.ld_unit_zero (S := S512x16) (funext zero2), View.ld_unit_zero (S := S1x1x512) (funext zero3)]
  rfl

/-- What case C stores of the codes. -/
theorem runC_s1 (c : Dev nD) (i : grid0.Coords) (arg2 : Memref sig .tc .vmem S1024x16 .f32) (harg2 : arg2.IsWhole) (arg3 : Memref sig .tc .vmem S512x16 .f32) (harg3 : arg3.IsWhole) (arg4 : Memref sig .tc .vmem S1x1x512 .f32) (harg4 : arg4.IsWhole) (arg5 : Memref sig .tc .vmem S1024x16 .f32) (harg5 : arg5.IsWhole) (arg6 : Memref sig .tc .vmem S1024x1 .i32) (harg6 : arg6.IsWhole) (arg7 : Memref sig .tc .vmem S1024x16 .f32) (harg7 : arg7.IsWhole) (arg8 : Memref sig .tc .vmem S1024x16 .f32) (harg8 : arg8.IsWhole) (arg9 : Memref sig .tc .vmem S128x512 .f32) (harg9 : arg9.IsWhole) (hc0 : ¬atFirst i) (hc1 : atLast i) (x0 : Vec Ideal S1024x16 .f32) (x1 : Vec Ideal S512x16 .f32) (x2 : Vec Ideal S1x1x512 .f32) (x3 : Vec Ideal S1024x16 .f32) (x4 : Vec Ideal S1024x1 .i32) (xs0 xs1 : Vec Ideal S1024x16 .f32) :
    (runC (F := Ideal) c i arg2 harg2 arg3 harg3 arg4 harg4 arg5 harg5 arg6 harg6 arg7 harg7 arg8 harg8 arg9 harg9 hc0 hc1 x0 x1 x2 x3 x4 xs0 xs1).2.2.2.1 = [⟨Rect.unit (s := S1024x16) (k0_off2 i) S128x16.size (k0_off2_inb i), k0_pay1 (F := Ideal) (fin c i arg2 harg2 arg3 harg3 arg4 harg4 arg5 harg5 arg6 harg6 arg7 harg7 arg8 harg8 arg9 harg9 x0 x1 x2 (band i xs0, band i xs1)).2⟩] := by
  unfold runC; dsimp only; sl_unfold_words
  simp only [View.readAt_eq_ld, harg2.read_unread, harg3.read_unread, harg4.read_unread, harg7.read_unread, harg8.read_unread,
    View.ld_unit_zero (S := S512x16) (funext zero2), View.ld_unit_zero (S := S1x1x512) (funext zero3)]
  rfl

open Cert.KernelIdeal.Rows Cert.Select

/-- The pieces that write a band of probabilities. -/
def probPieces (i : grid0.Coords) (hc1 : atLast i) (rd rc : FVec Ideal S128x16 .f32) : List (View.Piece (Elt Ideal) S1024x16 .f32) :=
  [⟨Rect.unit (s := S1024x16) (k0_off13 i) S128x6.size (k0_off13_inb i hc1), k0_pay6 (F := Ideal)⟩,
    ⟨Rect.unit (s := S1024x16) (k0_off12 i) S128x1.size (k0_off12_inb i hc1), k0_pay5 (F := Ideal) (k0_pay8 (F := Ideal) rd) (k0_pay9 (F := Ideal) rc)⟩,
    ⟨Rect.unit (s := S1024x16) (k0_off11 i) S128x1.size (k0_off11_inb i hc1), k0_pay3 (F := Ideal) (k0_pay8 (F := Ideal) rd) (k0_pay9 (F := Ideal) rc)⟩,
    ⟨Rect.unit (s := S1024x16) (k0_off10 i) S128x1.size (k0_off10_inb i hc1), k0_pay44 (F := Ideal) (k0_pay8 (F := Ideal) rd) (k0_pay9 (F := Ideal) rc)⟩,
    ⟨Rect.unit (s := S1024x16) (k0_off9 i) S128x1.size (k0_off9_inb i hc1), k0_pay39 (F := Ideal) (k0_pay8 (F := Ideal) rd) (k0_pay9 (F := Ideal) rc)⟩,
    ⟨Rect.unit (s := S1024x16) (k0_off8 i) S128x1.size (k0_off8_inb i hc1), k0_pay35 (F := Ideal) (k0_pay8 (F := Ideal) rd) (k0_pay9 (F := Ideal) rc)⟩,
    ⟨Rect.unit (s := S1024x16) (k0_off7 i) S128x1.size (k0_off7_inb i hc1), k0_pay30 (F := Ideal) (k0_pay8 (F := Ideal) rd) (k0_pay9 (F := Ideal) rc)⟩,
    ⟨Rect.unit (s := S1024x16) (k0_off6 i) S128x1.size (k0_off6_inb i hc1), k0_pay26 (F := Ideal) (k0_pay8 (F := Ideal) rd) (k0_pay9 (F := Ideal) rc)⟩,
    ⟨Rect.unit (s := S1024x16) (k0_off5 i) S128x1.size (k0_off5_inb i hc1), k0_pay22 (F := Ideal) (k0_pay8 (F := Ideal) rd) (k0_pay20 (F := Ideal) rc)⟩,
    ⟨Rect.unit (s := S1024x16) (k0_off4 i) S128x1.size (k0_off4_inb i hc1), k0_pay16 (F := Ideal) (rd) (rc)⟩,
    ⟨Rect.unit (s := S1024x16) (k0_off3 i) S128x1.size (k0_off3_inb i hc1), k0_pay12 (F := Ideal) (rd) (rc)⟩]

/-- The piece that writes a band of predictions. -/
def predPieces (i : grid0.Coords) (hc1 : atLast i) (rd rc : FVec Ideal S128x16 .f32) : List (View.Piece (Elt Ideal) S1024x1 .i32) :=
  [⟨Rect.unit (s := S1024x1) (k0_off14 i) S128x1.size (k0_off14_inb i hc1),
    k0_pay7 (F := Ideal) (k0_pay8 (F := Ideal) rd) (k0_pay9 (F := Ideal) rc) (k0_pay42 (F := Ideal) (k0_pay8 (F := Ideal) rd) (k0_pay9 (F := Ideal) rc) (k0_pay32 (F := Ideal) (k0_pay8 (F := Ideal) rd) (k0_pay9 (F := Ideal) rc) (k0_pay18 (F := Ideal) rd rc) (k0_pay20 (F := Ideal) rc)) (k0_pay33 (F := Ideal) (k0_pay8 (F := Ideal) rd) (k0_pay9 (F := Ideal) rc) (k0_pay18 (F := Ideal) rd rc) (k0_pay19 (F := Ideal) rd rc) (k0_pay20 (F := Ideal) rc)))
      (k0_pay45 (F := Ideal) (k0_pay8 (F := Ideal) rd) (k0_pay9 (F := Ideal) rc) (k0_pay32 (F := Ideal) (k0_pay8 (F := Ideal) rd) (k0_pay9 (F := Ideal) rc) (k0_pay18 (F := Ideal) rd rc) (k0_pay20 (F := Ideal) rc))) (k0_pay46 (F := Ideal) (k0_pay8 (F := Ideal) rd) (k0_pay9 (F := Ideal) rc) (k0_pay32 (F := Ideal) (k0_pay8 (F := Ideal) rd) (k0_pay9 (F := Ideal) rc) (k0_pay18 (F := Ideal) rd rc) (k0_pay20 (F := Ideal) rc)))⟩]

/-- What the last case stores of the probabilities. -/
theorem runC_p (c : Dev nD) (i : grid0.Coords) (arg2 : Memref sig .tc .vmem S1024x16 .f32) (harg2 : arg2.IsWhole) (arg3 : Memref sig .tc .vmem S512x16 .f32) (harg3 : arg3.IsWhole) (arg4 : Memref sig .tc .vmem S1x1x512 .f32) (harg4 : arg4.IsWhole) (arg5 : Memref sig .tc .vmem S1024x16 .f32) (harg5 : arg5.IsWhole) (arg6 : Memref sig .tc .vmem S1024x1 .i32) (harg6 : arg6.IsWhole) (arg7 : Memref sig .tc .vmem S1024x16 .f32) (harg7 : arg7.IsWhole) (arg8 : Memref sig .tc .vmem S1024x16 .f32) (harg8 : arg8.IsWhole) (arg9 : Memref sig .tc .vmem S128x512 .f32) (harg9 : arg9.IsWhole) (hc0 : ¬atFirst i) (hc1 : atLast i) (x0 : Vec Ideal S1024x16 .f32) (x1 : Vec Ideal S512x16 .f32) (x2 : Vec Ideal S1x1x512 .f32) (x3 : Vec Ideal S1024x16 .f32) (x4 : Vec Ideal S1024x1 .i32) (xs0 xs1 : Vec Ideal S1024x16 .f32) :
    (runC (F := Ideal) c i arg2 harg2 arg3 harg3 arg4 harg4 arg5 harg5 arg6 harg6 arg7 harg7 arg8 harg8 arg9 harg9 hc0 hc1 x0 x1 x2 x3 x4 xs0 xs1).1 = probPieces i hc1 (fin c i arg2 harg2 arg3 harg3 arg4 harg4 arg5 harg5 arg6 harg6 arg7 harg7 arg8 harg8 arg9 harg9 x0 x1 x2 (band i xs0, band i xs1)).1 (fin c i arg2 harg2 arg3 harg3 arg4 harg4 arg5 harg5 arg6 harg6 arg7 harg7 arg8 harg8 arg9 harg9 x0 x1 x2 (band i xs0, band i xs1)).2 := by
  unfold runC probPieces; dsimp only; sl_unfold_words
  simp only [View.readAt_eq_ld, harg2.read_unread, harg3.read_unread, harg4.read_unread, harg7.read_unread, harg8.read_unread,
    View.ld_unit_zero (S := S512x16) (funext zero2), View.ld_unit_zero (S := S1x1x512) (funext zero3)]
  rfl

/-- What the last case stores of the predictions. -/
theorem runC_y (c : Dev nD) (i : grid0.Coords) (arg2 : Memref sig .tc .vmem S1024x16 .f32) (harg2 : arg2.IsWhole) (arg3 : Memref sig .tc .vmem S512x16 .f32) (harg3 : arg3.IsWhole) (arg4 : Memref sig .tc .vmem S1x1x512 .f32) (harg4 : arg4.IsWhole) (arg5 : Memref sig .tc .vmem S1024x16 .f32) (harg5 : arg5.IsWhole) (arg6 : Memref sig .tc .vmem S1024x1 .i32) (harg6 : arg6.IsWhole) (arg7 : Memref sig .tc .vmem S1024x16 .f32) (harg7 : arg7.IsWhole) (arg8 : Memref sig .tc .vmem S1024x16 .f32) (harg8 : arg8.IsWhole) (arg9 : Memref sig .tc .vmem S128x512 .f32) (harg9 : arg9.IsWhole) (hc0 : ¬atFirst i) (hc1 : atLast i) (x0 : Vec Ideal S1024x16 .f32) (x1 : Vec Ideal S512x16 .f32) (x2 : Vec Ideal S1x1x512 .f32) (x3 : Vec Ideal S1024x16 .f32) (x4 : Vec Ideal S1024x1 .i32) (xs0 xs1 : Vec Ideal S1024x16 .f32) :
    (runC (F := Ideal) c i arg2 harg2 arg3 harg3 arg4 harg4 arg5 harg5 arg6 harg6 arg7 harg7 arg8 harg8 arg9 harg9 hc0 hc1 x0 x1 x2 x3 x4 xs0 xs1).2.1 = predPieces i hc1 (fin c i arg2 harg2 arg3 harg3 arg4 harg4 arg5 harg5 arg6 harg6 arg7 harg7 arg8 harg8 arg9 harg9 x0 x1 x2 (band i xs0, band i xs1)).1 (fin c i arg2 harg2 arg3 harg3 arg4 harg4 arg5 harg5 arg6 harg6 arg7 harg7 arg8 harg8 arg9 harg9 x0 x1 x2 (band i xs0, band i xs1)).2 := by
  unfold runC predPieces; dsimp only; sl_unfold_words
  simp only [View.readAt_eq_ld, harg2.read_unread, harg3.read_unread, harg4.read_unread, harg7.read_unread, harg8.read_unread,
    View.ld_unit_zero (S := S512x16) (funext zero2), View.ld_unit_zero (S := S1x1x512) (funext zero3)]
  rfl

/-- A grid point's second coordinate is one of eight. -/
theorem coord_lt (i : grid0.Coords) : (i 1).val < 8 := (i 1).isLt

theorem off2_row (i : grid0.Coords) : k0_off2 i 0 = 128 * (i 1).val := by
  have h := coord_lt i
  unfold k0_off2
  generalize (i 1).val = n at h ⊢
  interval_cases n <;> rfl

theorem off3_row (i : grid0.Coords) : k0_off3 i 0 = 128 * (i 1).val := by
  have h := coord_lt i
  unfold k0_off3
  generalize (i 1).val = n at h ⊢
  interval_cases n <;> rfl

theorem off4_row (i : grid0.Coords) : k0_off4 i 0 = 128 * (i 1).val := by
  have h := coord_lt i
  unfold k0_off4
  generalize (i 1).val = n at h ⊢
  interval_cases n <;> rfl

theorem off5_row (i : grid0.Coords) : k0_off5 i 0 = 128 * (i 1).val := by
  have h := coord_lt i
  unfold k0_off5
  generalize (i 1).val = n at h ⊢
  interval_cases n <;> rfl

theorem off6_row (i : grid0.Coords) : k0_off6 i 0 = 128 * (i 1).val := by
  have h := coord_lt i
  unfold k0_off6
  generalize (i 1).val = n at h ⊢
  interval_cases n <;> rfl

theorem off7_row (i : grid0.Coords) : k0_off7 i 0 = 128 * (i 1).val := by
  have h := coord_lt i
  unfold k0_off7
  generalize (i 1).val = n at h ⊢
  interval_cases n <;> rfl

theorem off8_row (i : grid0.Coords) : k0_off8 i 0 = 128 * (i 1).val := by
  have h := coord_lt i
  unfold k0_off8
  generalize (i 1).val = n at h ⊢
  interval_cases n <;> rfl

theorem off9_row (i : grid0.Coords) : k0_off9 i 0 = 128 * (i 1).val := by
  have h := coord_lt i
  unfold k0_off9
  generalize (i 1).val = n at h ⊢
  interval_cases n <;> rfl

theorem off10_row (i : grid0.Coords) : k0_off10 i 0 = 128 * (i 1).val := by
  have h := coord_lt i
  unfold k0_off10
  generalize (i 1).val = n at h ⊢
  interval_cases n <;> rfl

theorem off11_row (i : grid0.Coords) : k0_off11 i 0 = 128 * (i 1).val := by
  have h := coord_lt i
  unfold k0_off11
  generalize (i 1).val = n at h ⊢
  interval_cases n <;> rfl

theorem off12_row (i : grid0.Coords) : k0_off12 i 0 = 128 * (i 1).val := by
  have h := coord_lt i
  unfold k0_off12
  generalize (i 1).val = n at h ⊢
  interval_cases n <;> rfl

theorem off13_row (i : grid0.Coords) : k0_off13 i 0 = 128 * (i 1).val := by
  have h := coord_lt i
  unfold k0_off13
  generalize (i 1).val = n at h ⊢
  interval_cases n <;> rfl

theorem off14_row (i : grid0.Coords) : k0_off14 i 0 = 128 * (i 1).val := by
  have h := coord_lt i
  unfold k0_off14
  generalize (i 1).val = n at h ⊢
  interval_cases n <;> rfl

/-- The probabilities a row's held points give. -/
def outP (rd rc : Fin 16 → EReal) (s : Fin 16) : EReal :=
  if s.val < 10 then votes rd rc (((s.val : ℕ) : ℝ) : EReal) * ((1 / 15 : ℝ) : EReal) else 0

/-- The prediction a row's held points give. -/
def outY (rd rc : Fin 16 → EReal) : BitVec 32 :=
  Ideal.fptosi 32 (vote (fun c => votes rd rc ((c : ℝ) : EReal)) 10).2

/-- A band's probabilities, read at one of its rows. -/
theorem prob_in (v : View sig .tc .vmem S1024x16 .f32) (g : v.ty.Contents (Elt Ideal)) (i : grid0.Coords) (hc1 : atLast i) (rd rc : FVec Ideal S128x16 .f32)
    (r : Fin 128) (R : Fin 1024) (hR : R.val = 128 * (i 1).val + r.val) (s : Fin 16) :
    v.read (Elt Ideal) (v.writes (Elt Ideal) g (probPieces i hc1 rd rc)) (ix2 R s) = outP (row rd r) (row rc r) s := by
  unfold probPieces
  by_cases hs : 10 ≤ s.val
  · refine (read_writes_row2 v g _ _ R s r ⟨s.val - 10, by omega⟩ (by rw [off13_row]; exact hR) (by
      show s.val = 10 + (s.val - 10); omega)).trans ?_
    rw [pay6_row]; unfold outP; rw [if_neg (by omega)]
  obtain ⟨s, hlt⟩ := s
  have hlt' : s < 10 := Nat.lt_of_not_le hs
  clear hs
  interval_cases s
  · refine (read_writes_off v g _ _ _ 1 (Or.inl (by show 0 < 10; decide))).trans ?_
    refine (read_writes_off v g _ _ _ 1 (Or.inl (by show 0 < 9; decide))).trans ?_
    refine (read_writes_off v g _ _ _ 1 (Or.inl (by show 0 < 8; decide))).trans ?_
    refine (read_writes_off v g _ _ _ 1 (Or.inl (by show 0 < 7; decide))).trans ?_
    refine (read_writes_off v g _ _ _ 1 (Or.inl (by show 0 < 6; decide))).trans ?_
    refine (read_writes_off v g _ _ _ 1 (Or.inl (by show 0 < 5; decide))).trans ?_
    refine (read_writes_off v g _ _ _ 1 (Or.inl (by show 0 < 4; decide))).trans ?_
    refine (read_writes_off v g _ _ _ 1 (Or.inl (by show 0 < 3; decide))).trans ?_
    refine (read_writes_off v g _ _ _ 1 (Or.inl (by show 0 < 2; decide))).trans ?_
    refine (read_writes_off v g _ _ _ 1 (Or.inl (by show 0 < 1; decide))).trans ?_
    refine (read_writes_row2 v g _ _ _ _ r 0 (by rw [off3_row]; exact hR) rfl).trans ?_
    rw [pay12_row]
    unfold outP; rw [if_pos (by show 0 < 10; decide)]
  · refine (read_writes_off v g _ _ _ 1 (Or.inl (by show 1 < 10; decide))).trans ?_
    refine (read_writes_off v g _ _ _ 1 (Or.inl (by show 1 < 9; decide))).trans ?_
    refine (read_writes_off v g _ _ _ 1 (Or.inl (by show 1 < 8; decide))).trans ?_
    refine (read_writes_off v g _ _ _ 1 (Or.inl (by show 1 < 7; decide))).trans ?_
    refine (read_writes_off v g _ _ _ 1 (Or.inl (by show 1 < 6; decide))).trans ?_
    refine (read_writes_off v g _ _ _ 1 (Or.inl (by show 1 < 5; decide))).trans ?_
    refine (read_writes_off v g _ _ _ 1 (Or.inl (by show 1 < 4; decide))).trans ?_
    refine (read_writes_off v g _ _ _ 1 (Or.inl (by show 1 < 3; decide))).trans ?_
    refine (read_writes_off v g _ _ _ 1 (Or.inl (by show 1 < 2; decide))).trans ?_
    refine (read_writes_row2 v g _ _ _ _ r 0 (by rw [off4_row]; exact hR) rfl).trans ?_
    rw [pay16_row]
    unfold outP; rw [if_pos (by show 1 < 10; decide)]
  · refine (read_writes_off v g _ _ _ 1 (Or.inl (by show 2 < 10; decide))).trans ?_
    refine (read_writes_off v g _ _ _ 1 (Or.inl (by show 2 < 9; decide))).trans ?_
    refine (read_writes_off v g _ _ _ 1 (Or.inl (by show 2 < 8; decide))).trans ?_
    refine (read_writes_off v g _ _ _ 1 (Or.inl (by show 2 < 7; decide))).trans ?_
    refine (read_writes_off v g _ _ _ 1 (Or.inl (by show 2 < 6; decide))).trans ?_
    refine (read_writes_off v g _ _ _ 1 (Or.inl (by show 2 < 5; decide))).trans ?_
    refine (read_writes_off v g _ _ _ 1 (Or.inl (by show 2 < 4; decide))).trans ?_
    refine (read_writes_off v g _ _ _ 1 (Or.inl (by show 2 < 3; decide))).trans ?_
    refine (read_writes_row2 v g _ _ _ _ r 0 (by rw [off5_row]; exact hR) rfl).trans ?_
    rw [pay22_row]
    unfold outP; rw [if_pos (by show 2 < 10; decide)]
  · refine (read_writes_off v g _ _ _ 1 (Or.inl (by show 3 < 10; decide))).trans ?_
    refine (read_writes_off v g _ _ _ 1 (Or.inl (by show 3 < 9; decide))).trans ?_
    refine (read_writes_off v g _ _ _ 1 (Or.inl (by show 3 < 8; decide))).trans ?_
    refine (read_writes_off v g _ _ _ 1 (Or.inl (by show 3 < 7; decide))).trans ?_
    refine (read_writes_off v g _ _ _ 1 (Or.inl (by show 3 < 6; decide))).trans ?_
    refine (read_writes_off v g _ _ _ 1 (Or.inl (by show 3 < 5; decide))).trans ?_
    refine (read_writes_off v g _ _ _ 1 (Or.inl (by show 3 < 4; decide))).trans ?_
    refine (read_writes_row2 v g _ _ _ _ r 0 (by rw [off6_row]; exact hR) rfl).trans ?_
    rw [pay26_row]
    unfold outP; rw [if_pos (by show 3 < 10; decide)]
  · refine (read_writes_off v g _ _ _ 1 (Or.inl (by show 4 < 10; decide))).trans ?_
    refine (read_writes_off v g _ _ _ 1 (Or.inl (by show 4 < 9; decide))).trans ?_
    refine (read_writes_off v g _ _ _ 1 (Or.inl (by show 4 < 8; decide))).trans ?_
    refine (read_writes_off v g _ _ _ 1 (Or.inl (by show 4 < 7; decide))).trans ?_
    refine (read_writes_off v g _ _ _ 1 (Or.inl (by show 4 < 6; decide))).trans ?_
    refine (read_writes_off v g _ _ _ 1 (Or.inl (by show 4 < 5; decide))).trans ?_
    refine (read_writes_row2 v g _ _ _ _ r 0 (by rw [off7_row]; exact hR) rfl).trans ?_
    rw [pay30_row]
    unfold outP; rw [if_pos (by show 4 < 10; decide)]
  · refine (read_writes_off v g _ _ _ 1 (Or.inl (by show 5 < 10; decide))).trans ?_
    refine (read_writes_off v g _ _ _ 1 (Or.inl (by show 5 < 9; decide))).trans ?_
    refine (read_writes_off v g _ _ _ 1 (Or.inl (by show 5 < 8; decide))).trans ?_
    refine (read_writes_off v g _ _ _ 1 (Or.inl (by show 5 < 7; decide))).trans ?_
    refine (read_writes_off v g _ _ _ 1 (Or.inl (by show 5 < 6; decide))).trans ?_
    refine (read_writes_row2 v g _ _ _ _ r 0 (by rw [off8_row]; exact hR) rfl).trans ?_
    rw [pay35_row]
    unfold outP; rw [if_pos (by show 5 < 10; decide)]
  · refine (read_writes_off v g _ _ _ 1 (Or.inl (by show 6 < 10; decide))).trans ?_
    refine (read_writes_off v g _ _ _ 1 (Or.inl (by show 6 < 9; decide))).trans ?_
    refine (read_writes_off v g _ _ _ 1 (Or.inl (by show 6 < 8; decide))).trans ?_
    refine (read_writes_off v g _ _ _ 1 (Or.inl (by show 6 < 7; decide))).trans ?_
    refine (read_writes_row2 v g _ _ _ _ r 0 (by rw [off9_row]; exact hR) rfl).trans ?_
    rw [pay39_row]
    unfold outP; rw [if_pos (by show 6 < 10; decide)]
  · refine (read_writes_off v g _ _ _ 1 (Or.inl (by show 7 < 10; decide))).trans ?_
    refine (read_writes_off v g _ _ _ 1 (Or.inl (by show 7 < 9; decide))).trans ?_
    refine (read_writes_off v g _ _ _ 1 (Or.inl (by show 7 < 8; decide))).trans ?_
    refine (read_writes_row2 v g _ _ _ _ r 0 (by rw [off10_row]; exact hR) rfl).trans ?_
    rw [pay44_row]
    unfold outP; rw [if_pos (by show 7 < 10; decide)]
  · refine (read_writes_off v g _ _ _ 1 (Or.inl (by show 8 < 10; decide))).trans ?_
    refine (read_writes_off v g _ _ _ 1 (Or.inl (by show 8 < 9; decide))).trans ?_
    refine (read_writes_row2 v g _ _ _ _ r 0 (by rw [off11_row]; exact hR) rfl).trans ?_
    rw [pay3_row]
    unfold outP; rw [if_pos (by show 8 < 10; decide)]
  · refine (read_writes_off v g _ _ _ 1 (Or.inl (by show 9 < 10; decide))).trans ?_
    refine (read_writes_row2 v g _ _ _ _ r 0 (by rw [off12_row]; exact hR) rfl).trans ?_
    rw [pay5_row]
    unfold outP; rw [if_pos (by show 9 < 10; decide)]

/-- A band's probabilities, read off it. -/
theorem prob_off (v : View sig .tc .vmem S1024x16 .f32) (g : v.ty.Contents (Elt Ideal)) (i : grid0.Coords) (hc1 : atLast i) (rd rc : FVec Ideal S128x16 .f32)
    (R : Fin 1024) (hR : R.val < 128 * (i 1).val ∨ 128 * (i 1).val + 128 ≤ R.val) (s : Fin 16) :
    v.read (Elt Ideal) (v.writes (Elt Ideal) g (probPieces i hc1 rd rc)) (ix2 R s) = v.read (Elt Ideal) g (ix2 R s) := by
  unfold probPieces
  rw [read_writes_off v g _ _ _ 0 (by rw [off13_row]; exact hR), read_writes_off v g _ _ _ 0 (by rw [off12_row]; exact hR), read_writes_off v g _ _ _ 0 (by rw [off11_row]; exact hR), read_writes_off v g _ _ _ 0 (by rw [off10_row]; exact hR), read_writes_off v g _ _ _ 0 (by rw [off9_row]; exact hR), read_writes_off v g _ _ _ 0 (by rw [off8_row]; exact hR), read_writes_off v g _ _ _ 0 (by rw [off7_row]; exact hR), read_writes_off v g _ _ _ 0 (by rw [off6_row]; exact hR), read_writes_off v g _ _ _ 0 (by rw [off5_row]; exact hR), read_writes_off v g _ _ _ 0 (by rw [off4_row]; exact hR), read_writes_off v g _ _ _ 0 (by rw [off3_row]; exact hR)]
  rfl

/-- A band's predictions, read at one of its rows. -/
theorem pred_in (v : View sig .tc .vmem S1024x1 .i32) (g : v.ty.Contents (Elt Ideal)) (i : grid0.Coords) (hc1 : atLast i) (rd rc : FVec Ideal S128x16 .f32)
    (r : Fin 128) (R : Fin 1024) (hR : R.val = 128 * (i 1).val + r.val) :
    v.read (Elt Ideal) (v.writes (Elt Ideal) g (predPieces i hc1 rd rc)) (ix2 R 0) = outY (row rd r) (row rc r) := by
  unfold predPieces
  refine (read_writes_row2 v g _ _ R 0 r 0 (by rw [off14_row]; exact hR) rfl).trans ?_
  exact vote10 rd rc _ _ r (vote5 rd rc _ _ r (vote2 rd rc r))

/-- A band's predictions, read off it. -/
theorem pred_off (v : View sig .tc .vmem S1024x1 .i32) (g : v.ty.Contents (Elt Ideal)) (i : grid0.Coords) (hc1 : atLast i) (rd rc : FVec Ideal S128x16 .f32)
    (R : Fin 1024) (hR : R.val < 128 * (i 1).val ∨ 128 * (i 1).val + 128 ≤ R.val) :
    v.read (Elt Ideal) (v.writes (Elt Ideal) g (predPieces i hc1 rd rc)) (ix2 R 0) = v.read (Elt Ideal) g (ix2 R 0) := by
  unfold predPieces
  rw [read_writes_off v g _ _ _ 0 (by rw [off14_row]; exact hR)]
  rfl

/-- What is stored of a scratch, read at one of the band's rows. -/
theorem store_in (v : View sig .tc .vmem S1024x16 .f32) (g : v.ty.Contents (Elt Ideal)) (i : grid0.Coords) (w : FVec Ideal S128x16 .f32)
    (L : List (View.Piece (Elt Ideal) S1024x16 .f32)) (r : Fin 128) (R : Fin 1024) (hR : R.val = 128 * (i 1).val + r.val) (s : Fin 16) :
    v.read (Elt Ideal) (v.writes (Elt Ideal) g (⟨Rect.unit (s := S1024x16) (k0_off2 i) S128x16.size (k0_off2_inb i), w⟩ :: L)) (ix2 R s) = row w r s :=
  read_writes_row2 v g _ _ R s r s (by rw [off2_row]; exact hR) (Nat.zero_add _).symm

/-- What is stored of a scratch, read off the band. -/
theorem store_off (v : View sig .tc .vmem S1024x16 .f32) (g : v.ty.Contents (Elt Ideal)) (i : grid0.Coords) {inb} (w : FVec Ideal S128x16 .f32)
    (L : List (View.Piece (Elt Ideal) S1024x16 .f32)) (R : Fin 1024) (hR : R.val < 128 * (i 1).val ∨ 128 * (i 1).val + 128 ≤ R.val) (s : Fin 16) :
    v.read (Elt Ideal) (v.writes (Elt Ideal) g (⟨Rect.unit (s := S1024x16) (k0_off2 i) S128x16.size inb, w⟩ :: L)) (ix2 R s)
      = v.read (Elt Ideal) (v.writes (Elt Ideal) g L) (ix2 R s) :=
  read_writes_off v g _ _ _ 0 (by rw [off2_row]; exact hR)

/-- A band's row is the array's. -/
theorem band_row (i : grid0.Coords) (X : Vec Ideal S1024x16 .f32) (r : Fin 128) (R : Fin 1024) (hR : R.val = 128 * (i 1).val + r.val) (s : Fin 16) :
    band i X (ix2 r s) = X (ix2 R s) := by
  unfold band View.ld
  congr 1
  refine funext (Fin.forall_fin_two.2 ⟨Fin.ext ?_, Fin.ext ?_⟩)
  · show k0_off2 i 0 + 1 * r.val = R.val
    rw [off2_row, hR, Nat.one_mul]
  · show 0 + 1 * s.val = s.val
    omega

/-- A visit takes a row that has seen the points below `n` to one that has seen the block too. -/
theorem fin_between (c : Dev nD) (i : grid0.Coords) (arg2 : Memref sig .tc .vmem S1024x16 .f32) (harg2 : arg2.IsWhole) (arg3 : Memref sig .tc .vmem S512x16 .f32) (harg3 : arg3.IsWhole) (arg4 : Memref sig .tc .vmem S1x1x512 .f32) (harg4 : arg4.IsWhole) (arg5 : Memref sig .tc .vmem S1024x16 .f32) (harg5 : arg5.IsWhole) (arg6 : Memref sig .tc .vmem S1024x1 .i32) (harg6 : arg6.IsWhole) (arg7 : Memref sig .tc .vmem S1024x16 .f32) (harg7 : arg7.IsWhole) (arg8 : Memref sig .tc .vmem S1024x16 .f32) (harg8 : arg8.IsWhole) (arg9 : Memref sig .tc .vmem S128x512 .f32) (harg9 : arg9.IsWhole) (x0 : Vec Ideal S1024x16 .f32) (x1 : Vec Ideal S512x16 .f32) (x2 : Vec Ideal S1x1x512 .f32) (init : Vec Ideal S128x16 .f32 × Vec Ideal S128x16 .f32)
    (r : Fin 128) (R : Fin 1024) (hR : R.val = 128 * (i 1).val + r.val) (D cd : ℕ → EReal) (n : ℕ)
    (hcode : ∀ j : Fin 512, x2 (ix3 0 0 j) = cd (n + j.val))
    (hinj : Function.Injective fun j : Fin 512 => x2 (ix3 0 0 j)) (hbig : ∀ j : Fin 512, x2 (ix3 0 0 j) < big)
    (hD : ∀ j : Fin 512, ∑ x, x1 (ix2 j x) * x1 (ix2 j x) - ((2 : ℝ) : EReal) * ∑ x, x0 (ix2 R x) * x1 (ix2 j x) = D (n + j.val))
    (h0 : Between D cd n (row init.1 r) (row init.2 r)) :
    Between D cd (n + 512) (row (fin c i arg2 harg2 arg3 harg3 arg4 harg4 arg5 harg5 arg6 harg6 arg7 harg7 arg8 harg8 arg9 harg9 x0 x1 x2 init).1 r) (row (fin c i arg2 harg2 arg3 harg3 arg4 harg4 arg5 harg5 arg6 harg6 arg7 harg7 arg8 harg8 arg9 harg9 x0 x1 x2 init).2 r) := by
  unfold fin
  refine loop_between _ _ _ i arg2 harg2 arg3 harg3 arg4 harg4 arg5 harg5 arg6 harg6 arg7 harg7 arg8 harg8 arg9 harg9 x2 _ init r D cd n hcode hinj hbig (fun j => ?_) h0
  rw [read_writes_whole _ _ (funext zero2)]
  rw [pay50_row, ← hD j]
  simp only [band_row i x0 r R hR]

end Cert.KernelIdeal.Run

end
-- ==== Proof.KernelIdeal.Inv.lean ====
/- What the scratches hold between grid points: for each query row, the nearest of the points seen so far. -/
module

public import proofs.«01_k».proof.Proof.KernelIdeal.Host
public import proofs.«01_k».proof.Proof.KernelIdeal.BodyValue

@[expose] public section

set_option maxRecDepth 16384

noncomputable section

namespace Cert.KernelIdeal.Run

open Idealize.ShloMosaic Idealize.ShloMosaic.TcCoe Idealize.ShloMosaic.Pointwise
open Idealize.SL Idealize.SL.Sem
open Cert.KernelIdeal Cert.KernelIdeal.Gen Cert.KernelIdeal.Rows Cert.Select

variable (m : (ℓ : Loc nD τ sig) → Buf (Elt Ideal) ℓ)

/-- How many training blocks query row `R` has met before grid point `n`. -/
def seen (R n : ℕ) : ℕ := (n + 7 - R / 128) / 8

/-- Before grid point `n`: every query row that has met a block holds the nearest of the points it has met. -/
def Inv (c : Dev nD) (n : ℕ) (d0 d1 : FVec Ideal S1024x16 .f32) : Prop :=
  ∀ R : Fin 1024, 0 < seen R.val n →
    Between (dist (argX m c) (argT m c) R) (code (argY m c)) (512 * seen R.val n) (row d0 R) (row d1 R)

/-- What the band of a grid point holds after its visit, from what it held. -/
def finAt (c : Dev nD) (t : Fin cfg0.N) (init : Vec Ideal S128x16 .f32 × Vec Ideal S128x16 .f32) :
    Vec Ideal S128x16 .f32 × Vec Ideal S128x16 .f32 :=
  fin c (grid0.coords t) (mem0 t) (memW0 t) (mem1 t) (memW1 t) (mem2 t) (memW2 t) (mem3 t) (memW3 t) (mem4 t) (memW4 t) scr0 (Memref.isWhole_whole _) scr1 (Memref.isWhole_whole _) scr2 (Memref.isWhole_whole _) (iblk m c 0 t) (iblk m c 1 t) (iblk m c 2 t) init

/-- The codes of a block differ. -/
theorem code_inj (y : IVec S100000 32) (hy : ∀ p, (y (ix1 p)).toNat < 10) (b : ℕ) :
    Function.Injective fun j : Fin 512 => code y (512 * b + j.val) := by
  intro j k h
  have hl : ∀ p, label y p < 10 := fun p => by
    unfold label; split
    · exact hy _
    · decide
  have h' := EReal.coe_eq_coe_iff.1 h
  have h'' : 16 * ((512 * b + j.val) % 512) + label y (512 * b + j.val) = 16 * ((512 * b + k.val) % 512) + label y (512 * b + k.val) := by
    exact_mod_cast h'
  have h1 := hl (512 * b + j.val)
  have h2 := hl (512 * b + k.val)
  apply Fin.ext
  omega

/-- Every code lies below the mask. -/
theorem code_lt (y : IVec S100000 32) (hy : ∀ p, (y (ix1 p)).toNat < 10) (p : ℕ) : code y p < big := by
  have hl : label y p < 10 := by
    unfold label; split
    · exact hy _
    · decide
  rw [big_eq]
  unfold code
  rw [EReal.coe_lt_coe_iff]
  have : 16 * (p % 512) + label y p < 1000000000 := by omega
  exact_mod_cast this

/-- A visit to a block takes the band from the points before the block to the points through it. -/
theorem fin_step (c : Dev nD) (hy : ∀ p, (argY m c (ix1 p)).toNat < 10) (t : Fin cfg0.N)
    (init : Vec Ideal S128x16 .f32 × Vec Ideal S128x16 .f32) (r : Fin 128) (R : Fin 1024) (hR : R.val = 128 * (t.val % 8) + r.val)
    (h0 : Between (dist (argX m c) (argT m c) R) (code (argY m c)) (512 * (t.val / 8)) (row init.1 r) (row init.2 r)) :
    Between (dist (argX m c) (argT m c) R) (code (argY m c)) (512 * (t.val / 8 + 1))
      (row (finAt m c t init).1 r) (row (finAt m c t init).2 r) := by
  have hc := iblk2_val m c hy t
  refine fin_between c (grid0.coords t) (mem0 t) (memW0 t) (mem1 t) (memW1 t) (mem2 t) (memW2 t) (mem3 t) (memW3 t) (mem4 t) (memW4 t) scr0 (Memref.isWhole_whole _) scr1 (Memref.isWhole_whole _) scr2 (Memref.isWhole_whole _) (iblk m c 0 t) (iblk m c 1 t) (iblk m c 2 t) init r R (by rw [coord1]; exact hR)
    (dist (argX m c) (argT m c) R) (code (argY m c)) (512 * (t.val / 8)) hc ?_ ?_ ?_ h0
  · simp only [hc]
    exact code_inj _ hy _
  · intro j
    rw [hc]
    exact code_lt _ hy _
  · intro j
    unfold dist
    simp only [iblk0_val, iblk1_val]

/-- One grid point on: the rows of its band have met one block more, the others nothing. -/
theorem inv_step (c : Dev nD) (hy : ∀ p, (argY m c (ix1 p)).toNat < 10) (t : Fin cfg0.N)
    (init : Vec Ideal S128x16 .f32 × Vec Ideal S128x16 .f32) (d0 d1 d0' d1' : FVec Ideal S1024x16 .f32) (hinv : Inv m c t.val d0 d1)
    (hinit : ∀ (r : Fin 128) (R : Fin 1024), R.val = 128 * (t.val % 8) + r.val →
      Between (dist (argX m c) (argT m c) R) (code (argY m c)) (512 * (t.val / 8)) (row init.1 r) (row init.2 r))
    (hin0 : ∀ (r : Fin 128) (R : Fin 1024), R.val = 128 * ((grid0.coords t) 1).val + r.val → ∀ s, d0' (ix2 R s) = row (finAt m c t init).1 r s)
    (hin1 : ∀ (r : Fin 128) (R : Fin 1024), R.val = 128 * ((grid0.coords t) 1).val + r.val → ∀ s, d1' (ix2 R s) = row (finAt m c t init).2 r s)
    (hoff0 : ∀ R : Fin 1024, R.val < 128 * ((grid0.coords t) 1).val ∨ 128 * ((grid0.coords t) 1).val + 128 ≤ R.val → ∀ s, d0' (ix2 R s) = d0 (ix2 R s))
    (hoff1 : ∀ R : Fin 1024, R.val < 128 * ((grid0.coords t) 1).val ∨ 128 * ((grid0.coords t) 1).val + 128 ≤ R.val → ∀ s, d1' (ix2 R s) = d1 (ix2 R s)) :
    Inv m c (t.val + 1) d0' d1' := by
  intro R hs
  simp only [coord1] at hin0 hin1 hoff0 hoff1
  have hRlt := R.isLt
  by_cases hb : R.val / 128 = t.val % 8
  · have hr : R.val - 128 * (t.val % 8) < 128 := by omega
    have hR : R.val = 128 * (t.val % 8) + (⟨R.val - 128 * (t.val % 8), hr⟩ : Fin 128).val := by
      show R.val = 128 * (t.val % 8) + (R.val - 128 * (t.val % 8)); omega
    have hseen : seen R.val (t.val + 1) = t.val / 8 + 1 := by unfold seen; omega
    rw [hseen, show row d0' R = row (finAt m c t init).1 ⟨R.val - 128 * (t.val % 8), hr⟩ from funext (hin0 _ R hR),
      show row d1' R = row (finAt m c t init).2 ⟨R.val - 128 * (t.val % 8), hr⟩ from funext (hin1 _ R hR)]
    exact fin_step m c hy t init _ R hR (hinit _ R hR)
  · have hoff : R.val < 128 * (t.val % 8) ∨ 128 * (t.val % 8) + 128 ≤ R.val := by omega
    have hseen : seen R.val (t.val + 1) = seen R.val t.val := by unfold seen; omega
    rw [hseen] at hs ⊢
    rw [show row d0' R = row d0 R from funext (hoff0 R hoff), show row d1' R = row d1 R from funext (hoff1 R hoff)]
    exact hinv R hs

/-- Before any grid point nothing is asked. -/
theorem inv_zero (c : Dev nD) (d0 d1 : FVec Ideal S1024x16 .f32) : Inv m c 0 d0 d1 := by
  intro R hs
  unfold seen at hs
  omega

/-- A whole memref reads back what it is said to hold. -/
theorem read_unread {sp : Space} {s : Shape} {e : EltTy} (a : Memref sig .tc sp s e) (h : a.IsWhole) (x : s.Idx → Elt Ideal e) :
    a.view.read (Elt Ideal) (h.unread x) = x := h.read_unread x

/-- The scratch of distances after a point that resets. -/
abbrev scrA0 (c : Dev nD) (t : Fin cfg0.N) (hc0 : atFirst (grid0.coords t)) (hc1 : ¬atLast (grid0.coords t)) (x3 : Vec Ideal S1024x16 .f32) (x4 : Vec Ideal S1024x1 .i32) (xs0 xs1 : Vec Ideal S1024x16 .f32) : FVec Ideal S1024x16 .f32 :=
  scr0.view.read (Elt Ideal) (scr0.view.writes (Elt Ideal) ((Memref.isWhole_whole cc0_scratch0).unread xs0) (runA (F := Ideal) c (grid0.coords t) (mem0 t) (memW0 t) (mem1 t) (memW1 t) (mem2 t) (memW2 t) (mem3 t) (memW3 t) (mem4 t) (memW4 t) scr0 (Memref.isWhole_whole _) scr1 (Memref.isWhole_whole _) scr2 (Memref.isWhole_whole _) hc0 hc1 (iblk m c 0 t) (iblk m c 1 t) (iblk m c 2 t) x3 x4 xs0 xs1).1)
/-- The scratch of codes after a point that resets. -/
abbrev scrA1 (c : Dev nD) (t : Fin cfg0.N) (hc0 : atFirst (grid0.coords t)) (hc1 : ¬atLast (grid0.coords t)) (x3 : Vec Ideal S1024x16 .f32) (x4 : Vec Ideal S1024x1 .i32) (xs0 xs1 : Vec Ideal S1024x16 .f32) : FVec Ideal S1024x16 .f32 :=
  scr1.view.read (Elt Ideal) (scr1.view.writes (Elt Ideal) ((Memref.isWhole_whole cc0_scratch1).unread xs1) (runA (F := Ideal) c (grid0.coords t) (mem0 t) (memW0 t) (mem1 t) (memW1 t) (mem2 t) (memW2 t) (mem3 t) (memW3 t) (mem4 t) (memW4 t) scr0 (Memref.isWhole_whole _) scr1 (Memref.isWhole_whole _) scr2 (Memref.isWhole_whole _) hc0 hc1 (iblk m c 0 t) (iblk m c 1 t) (iblk m c 2 t) x3 x4 xs0 xs1).2.1)

/-- The invariant across a point that resets. -/
theorem invA (c : Dev nD) (hy : ∀ p, (argY m c (ix1 p)).toNat < 10) (t : Fin cfg0.N) (hc0 : atFirst (grid0.coords t)) (hc1 : ¬atLast (grid0.coords t))
    (x3 : Vec Ideal S1024x16 .f32) (x4 : Vec Ideal S1024x1 .i32) (xs0 xs1 : Vec Ideal S1024x16 .f32) (hinv : Inv m c t.val xs0 xs1) :
    Inv m c (t.val + 1) (scrA0 m c t hc0 hc1 x3 x4 xs0 xs1) (scrA1 m c t hc0 hc1 x3 x4 xs0 xs1) := by
  have ht := (atFirst_iff t).mp hc0
  refine inv_step m c hy t (k0_pay47 (F := Ideal), k0_pay48 (F := Ideal)) xs0 xs1 _ _ hinv ?_ ?_ ?_ ?_ ?_
  · intro r R hR
    rw [ht]
    exact between_zero _ _ _ _ fun s => pay47_row r s
  · intro r R hR s
    unfold scrA0
    rw [runA_s0]
    refine (store_in _ _ _ _ _ r R hR s).trans ?_
    rw [pay59_row]; rfl
  · intro r R hR s
    unfold scrA1
    rw [runA_s1]
    refine (store_in _ _ _ _ _ r R hR s).trans ?_
    rw [pay1_row]; rfl
  · intro R hR s
    unfold scrA0
    rw [runA_s0]
    refine (store_off _ _ _ _ _ R hR s).trans ?_
    refine (store_off scr0.view _ (grid0.coords t) _ [] R hR s).trans ?_
    exact congrFun (read_unread scr0 (Memref.isWhole_whole cc0_scratch0) xs0) (ix2 R s)
  · intro R hR s
    unfold scrA1
    rw [runA_s1]
    refine (store_off _ _ _ _ _ R hR s).trans ?_
    refine (store_off scr1.view _ (grid0.coords t) _ [] R hR s).trans ?_
    exact congrFun (read_unread scr1 (Memref.isWhole_whole cc0_scratch1) xs1) (ix2 R s)

/-- The band's rows of the scratches, before a point that does not reset. -/
theorem band_between (c : Dev nD) (t : Fin cfg0.N) (h0 : t.val / 8 ≠ 0) (xs0 xs1 : Vec Ideal S1024x16 .f32) (hinv : Inv m c t.val xs0 xs1)
    (r : Fin 128) (R : Fin 1024) (hR : R.val = 128 * (t.val % 8) + r.val) :
    Between (dist (argX m c) (argT m c) R) (code (argY m c)) (512 * (t.val / 8))
      (row (band (grid0.coords t) xs0) r) (row (band (grid0.coords t) xs1) r) := by
  have hRlt := r.isLt
  have hseen : seen R.val t.val = t.val / 8 := by unfold seen; omega
  have h := hinv R (by rw [hseen]; omega)
  rw [hseen] at h
  have e : ∀ X : Vec Ideal S1024x16 .f32, row (band (grid0.coords t) X) r = row X R :=
    fun X => funext fun s => band_row (grid0.coords t) X r R (by rw [coord1]; exact hR) s
  rw [e, e]
  exact h

/-- The scratch of distances after a point of case B. -/
abbrev scrB0 (c : Dev nD) (t : Fin cfg0.N) (hc0 : ¬atFirst (grid0.coords t)) (hc1 : ¬atLast (grid0.coords t)) (x3 : Vec Ideal S1024x16 .f32) (x4 : Vec Ideal S1024x1 .i32) (xs0 xs1 : Vec Ideal S1024x16 .f32) : FVec Ideal S1024x16 .f32 :=
  scr0.view.read (Elt Ideal) (scr0.view.writes (Elt Ideal) ((Memref.isWhole_whole cc0_scratch0).unread xs0) (runB (F := Ideal) c (grid0.coords t) (mem0 t) (memW0 t) (mem1 t) (memW1 t) (mem2 t) (memW2 t) (mem3 t) (memW3 t) (mem4 t) (memW4 t) scr0 (Memref.isWhole_whole _) scr1 (Memref.isWhole_whole _) scr2 (Memref.isWhole_whole _) hc0 hc1 (iblk m c 0 t) (iblk m c 1 t) (iblk m c 2 t) x3 x4 xs0 xs1).1)

/-- The scratch of codes after a point of case B. -/
abbrev scrB1 (c : Dev nD) (t : Fin cfg0.N) (hc0 : ¬atFirst (grid0.coords t)) (hc1 : ¬atLast (grid0.coords t)) (x3 : Vec Ideal S1024x16 .f32) (x4 : Vec Ideal S1024x1 .i32) (xs0 xs1 : Vec Ideal S1024x16 .f32) : FVec Ideal S1024x16 .f32 :=
  scr1.view.read (Elt Ideal) (scr1.view.writes (Elt Ideal) ((Memref.isWhole_whole cc0_scratch1).unread xs1) (runB (F := Ideal) c (grid0.coords t) (mem0 t) (memW0 t) (mem1 t) (memW1 t) (mem2 t) (memW2 t) (mem3 t) (memW3 t) (mem4 t) (memW4 t) scr0 (Memref.isWhole_whole _) scr1 (Memref.isWhole_whole _) scr2 (Memref.isWhole_whole _) hc0 hc1 (iblk m c 0 t) (iblk m c 1 t) (iblk m c 2 t) x3 x4 xs0 xs1).2.1)

/-- The invariant across a point of case B. -/
theorem invB (c : Dev nD) (hy : ∀ p, (argY m c (ix1 p)).toNat < 10) (t : Fin cfg0.N) (hc0 : ¬atFirst (grid0.coords t)) (hc1 : ¬atLast (grid0.coords t))
    (x3 : Vec Ideal S1024x16 .f32) (x4 : Vec Ideal S1024x1 .i32) (xs0 xs1 : Vec Ideal S1024x16 .f32) (hinv : Inv m c t.val xs0 xs1) :
    Inv m c (t.val + 1) (scrB0 m c t hc0 hc1 x3 x4 xs0 xs1) (scrB1 m c t hc0 hc1 x3 x4 xs0 xs1) := by
  have ht : t.val / 8 ≠ 0 := fun h => hc0 ((atFirst_iff t).mpr h)
  refine inv_step m c hy t (band (grid0.coords t) xs0, band (grid0.coords t) xs1) xs0 xs1 _ _ hinv ?_ ?_ ?_ ?_ ?_
  · exact band_between m c t ht xs0 xs1 hinv
  · intro r R hR s
    unfold scrB0
    rw [runB_s0]
    refine (store_in _ _ _ _ _ r R hR s).trans ?_
    rw [pay59_row]; rfl
  · intro r R hR s
    unfold scrB1
    rw [runB_s1]
    refine (store_in _ _ _ _ _ r R hR s).trans ?_
    rw [pay1_row]; rfl
  · intro R hR s
    unfold scrB0
    rw [runB_s0]
    refine (store_off scr0.view _ (grid0.coords t) _ [] R hR s).trans ?_
    exact congrFun (read_unread scr0 (Memref.isWhole_whole cc0_scratch0) xs0) (ix2 R s)
  · intro R hR s
    unfold scrB1
    rw [runB_s1]
    refine (store_off scr1.view _ (grid0.coords t) _ [] R hR s).trans ?_
    exact congrFun (read_unread scr1 (Memref.isWhole_whole cc0_scratch1) xs1) (ix2 R s)

/-- The scratch of distances after a point of case C. -/
abbrev scrC0 (c : Dev nD) (t : Fin cfg0.N) (hc0 : ¬atFirst (grid0.coords t)) (hc1 : atLast (grid0.coords t)) (x3 : Vec Ideal S1024x16 .f32) (x4 : Vec Ideal S1024x1 .i32) (xs0 xs1 : Vec Ideal S1024x16 .f32) : FVec Ideal S1024x16 .f32 :=
  scr0.view.read (Elt Ideal) (scr0.view.writes (Elt Ideal) ((Memref.isWhole_whole cc0_scratch0).unread xs0) (runC (F := Ideal) c (grid0.coords t) (mem0 t) (memW0 t) (mem1 t) (memW1 t) (mem2 t) (memW2 t) (mem3 t) (memW3 t) (mem4 t) (memW4 t) scr0 (Memref.isWhole_whole _) scr1 (Memref.isWhole_whole _) scr2 (Memref.isWhole_whole _) hc0 hc1 (iblk m c 0 t) (iblk m c 1 t) (iblk m c 2 t) x3 x4 xs0 xs1).2.2.1)

/-- The scratch of codes after a point of case C. -/
abbrev scrC1 (c : Dev nD) (t : Fin cfg0.N) (hc0 : ¬atFirst (grid0.coords t)) (hc1 : atLast (grid0.coords t)) (x3 : Vec Ideal S1024x16 .f32) (x4 : Vec Ideal S1024x1 .i32) (xs0 xs1 : Vec Ideal S1024x16 .f32) : FVec Ideal S1024x16 .f32 :=
  scr1.view.read (Elt Ideal) (scr1.view.writes (Elt Ideal) ((Memref.isWhole_whole cc0_scratch1).unread xs1) (runC (F := Ideal) c (grid0.coords t) (mem0 t) (memW0 t) (mem1 t) (memW1 t) (mem2 t) (memW2 t) (mem3 t) (memW3 t) (mem4 t) (memW4 t) scr0 (Memref.isWhole_whole _) scr1 (Memref.isWhole_whole _) scr2 (Memref.isWhole_whole _) hc0 hc1 (iblk m c 0 t) (iblk m c 1 t) (iblk m c 2 t) x3 x4 xs0 xs1).2.2.2.1)

/-- The invariant across a point of case C. -/
theorem invC (c : Dev nD) (hy : ∀ p, (argY m c (ix1 p)).toNat < 10) (t : Fin cfg0.N) (hc0 : ¬atFirst (grid0.coords t)) (hc1 : atLast (grid0.coords t))
    (x3 : Vec Ideal S1024x16 .f32) (x4 : Vec Ideal S1024x1 .i32) (xs0 xs1 : Vec Ideal S1024x16 .f32) (hinv : Inv m c t.val xs0 xs1) :
    Inv m c (t.val + 1) (scrC0 m c t hc0 hc1 x3 x4 xs0 xs1) (scrC1 m c t hc0 hc1 x3 x4 xs0 xs1) := by
  have ht : t.val / 8 ≠ 0 := fun h => hc0 ((atFirst_iff t).mpr h)
  refine inv_step m c hy t (band (grid0.coords t) xs0, band (grid0.coords t) xs1) xs0 xs1 _ _ hinv ?_ ?_ ?_ ?_ ?_
  · exact band_between m c t ht xs0 xs1 hinv
  · intro r R hR s
    unfold scrC0
    rw [runC_s0]
    refine (store_in _ _ _ _ _ r R hR s).trans ?_
    rw [pay59_row]; rfl
  · intro r R hR s
    unfold scrC1
    rw [runC_s1]
    refine (store_in _ _ _ _ _ r R hR s).trans ?_
    rw [pay1_row]; rfl
  · intro R hR s
    unfold scrC0
    rw [runC_s0]
    refine (store_off scr0.view _ (grid0.coords t) _ [] R hR s).trans ?_
    exact congrFun (read_unread scr0 (Memref.isWhole_whole cc0_scratch0) xs0) (ix2 R s)
  · intro R hR s
    unfold scrC1
    rw [runC_s1]
    refine (store_off scr1.view _ (grid0.coords t) _ [] R hR s).trans ?_
    exact congrFun (read_unread scr1 (Memref.isWhole_whole cc0_scratch1) xs1) (ix2 R s)

/-- The probabilities window's buffer after a last-block point. -/
abbrev probC (c : Dev nD) (t : Fin cfg0.N) (hc0 : ¬atFirst (grid0.coords t)) (hc1 : atLast (grid0.coords t)) (x3 : Vec Ideal S1024x16 .f32) (x4 : Vec Ideal S1024x1 .i32) (xs0 xs1 : Vec Ideal S1024x16 .f32) : FVec Ideal S1024x16 .f32 :=
  (mem3 t).view.read (Elt Ideal) ((mem3 t).view.writes (Elt Ideal) ((memW3 t).unread x3) (runC (F := Ideal) c (grid0.coords t) (mem0 t) (memW0 t) (mem1 t) (memW1 t) (mem2 t) (memW2 t) (mem3 t) (memW3 t) (mem4 t) (memW4 t) scr0 (Memref.isWhole_whole _) scr1 (Memref.isWhole_whole _) scr2 (Memref.isWhole_whole _) hc0 hc1 (iblk m c 0 t) (iblk m c 1 t) (iblk m c 2 t) x3 x4 xs0 xs1).1)
/-- The predictions window's buffer after a last-block point. -/
abbrev predC (c : Dev nD) (t : Fin cfg0.N) (hc0 : ¬atFirst (grid0.coords t)) (hc1 : atLast (grid0.coords t)) (x3 : Vec Ideal S1024x16 .f32) (x4 : Vec Ideal S1024x1 .i32) (xs0 xs1 : Vec Ideal S1024x16 .f32) : IVec S1024x1 32 :=
  (mem4 t).view.read (Elt Ideal) ((mem4 t).view.writes (Elt Ideal) ((memW4 t).unread x4) (runC (F := Ideal) c (grid0.coords t) (mem0 t) (memW0 t) (mem1 t) (memW1 t) (mem2 t) (memW2 t) (mem3 t) (memW3 t) (mem4 t) (memW4 t) scr0 (Memref.isWhole_whole _) scr1 (Memref.isWhole_whole _) scr2 (Memref.isWhole_whole _) hc0 hc1 (iblk m c 0 t) (iblk m c 1 t) (iblk m c 2 t) x3 x4 xs0 xs1).2.1)

/-- The held points at the last block are the nearest of all. -/
theorem held_last (c : Dev nD) (hy : ∀ p, (argY m c (ix1 p)).toNat < 10) (t : Fin cfg0.N) (h1 : t.val / 8 = 195)
    (xs0 xs1 : Vec Ideal S1024x16 .f32) (hinv : Inv m c t.val xs0 xs1) (r : Fin 128) (R : Fin 1024)
    (hR : R.val = 128 * ((grid0.coords t) 1).val + r.val) :
    Between (dist (argX m c) (argT m c) R) (code (argY m c)) 100352
      (row (finAt m c t (band (grid0.coords t) xs0, band (grid0.coords t) xs1)).1 r)
      (row (finAt m c t (band (grid0.coords t) xs0, band (grid0.coords t) xs1)).2 r) := by
  have hR' := hR
  rw [coord1] at hR'
  have h := fin_step m c hy t (band (grid0.coords t) xs0, band (grid0.coords t) xs1) r R hR'
    (band_between m c t (by omega) xs0 xs1 hinv r R hR')
  rw [h1] at h
  exact h

/-- The probabilities window after a last-block point: the band's rows from the held points, the others kept. -/
theorem outC (c : Dev nD) (t : Fin cfg0.N) (hc0 : ¬atFirst (grid0.coords t)) (hc1 : atLast (grid0.coords t))
    (x3 : Vec Ideal S1024x16 .f32) (x4 : Vec Ideal S1024x1 .i32) (xs0 xs1 : Vec Ideal S1024x16 .f32) :
    (∀ (r : Fin 128) (R : Fin 1024), R.val = 128 * ((grid0.coords t) 1).val + r.val → ∀ s,
      probC m c t hc0 hc1 x3 x4 xs0 xs1 (ix2 R s)
        = outP (row (finAt m c t (band (grid0.coords t) xs0, band (grid0.coords t) xs1)).1 r)
            (row (finAt m c t (band (grid0.coords t) xs0, band (grid0.coords t) xs1)).2 r) s)
    ∧ ∀ R : Fin 1024, R.val < 128 * ((grid0.coords t) 1).val ∨ 128 * ((grid0.coords t) 1).val + 128 ≤ R.val → ∀ s,
      probC m c t hc0 hc1 x3 x4 xs0 xs1 (ix2 R s) = x3 (ix2 R s) := by
  refine ⟨fun r R hR s => ?_, fun R hR s => ?_⟩
  · unfold probC
    rw [runC_p]
    exact prob_in _ _ _ _ _ _ r R hR s
  · unfold probC
    rw [runC_p]
    refine (prob_off _ _ _ _ _ _ R hR s).trans ?_
    exact congrFun (read_unread (mem3 t) (memW3 t) x3) (ix2 R s)

/-- The predictions window after a last-block point. -/
theorem outYC (c : Dev nD) (t : Fin cfg0.N) (hc0 : ¬atFirst (grid0.coords t)) (hc1 : atLast (grid0.coords t))
    (x3 : Vec Ideal S1024x16 .f32) (x4 : Vec Ideal S1024x1 .i32) (xs0 xs1 : Vec Ideal S1024x16 .f32) :
    (∀ (r : Fin 128) (R : Fin 1024), R.val = 128 * ((grid0.coords t) 1).val + r.val →
      predC m c t hc0 hc1 x3 x4 xs0 xs1 (ix2 R 0)
        = outY (row (finAt m c t (band (grid0.coords t) xs0, band (grid0.coords t) xs1)).1 r)
            (row (finAt m c t (band (grid0.coords t) xs0, band (grid0.coords t) xs1)).2 r))
    ∧ ∀ R : Fin 1024, R.val < 128 * ((grid0.coords t) 1).val ∨ 128 * ((grid0.coords t) 1).val + 128 ≤ R.val →
      predC m c t hc0 hc1 x3 x4 xs0 xs1 (ix2 R 0) = x4 (ix2 R 0) := by
  refine ⟨fun r R hR => ?_, fun R hR => ?_⟩
  · unfold predC
    rw [runC_y]
    exact pred_in _ _ _ _ _ _ r R hR
  · unfold predC
    rw [runC_y]
    refine (pred_off _ _ _ _ _ _ R hR).trans ?_
    exact congrFun (read_unread (mem4 t) (memW4 t) x4) (ix2 R 0)

end Cert.KernelIdeal.Run

end
-- ==== Proof.Launch.lean ====
/- The launch of a pipelined region followed by host lines, for relational proof data: the lines' results are named. -/
module

public import Idealize.ShloMosaic.Lib.Pipeline.FrameSuffix

@[expose] public section

noncomputable section

namespace Cert.Launch

open Idealize.ShloMosaic Idealize.ShloMosaic.TcCoe Idealize.ShloMosaic.Pipeline Idealize.ShloMosaic.Rounds
open Idealize.SL
open Idealize.SL.BI (sProp bigSep)
open scoped Idealize.SL.BI
open Idealize.SL.BI.BIBase Idealize.SL.BI.Laws Idealize.SL.Sem Idealize.SL.ProofMode
open Idealize.SL.RA

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- What is known after the run: every array holds contents its window may leave, and each buffer outside the region holds what
    the host lines make of such contents. -/
def Post {cfg₁ : Cfg sig Λ₀} (rd : (c : Dev nD) → RDat τ Val Unit ℕ (UR sig nD τ) ℕ cfg₁ c)
    (V₀ : Dev nD → Valuation τ sig Val) (opss : List (List (HloOp τ sig Val))) (r : PUnit × MemSt nD τ sig Val) : Prop :=
  ∀ c : Dev nD, (∀ w, (rd c).ArrAt w cfg₁.N (r.2.mem ((cfg₁.spec w).arr.view.loc (c.tc : Thread nD τ))))
    ∧ ∃ A : (w : Fin cfg₁.W) → Buf Val ((cfg₁.spec w).arr.view.loc (c.tc : Thread nD τ)),
        (∀ w, (rd c).ArrAt w cfg₁.N (A w))
        ∧ ∀ b ∈ restRefsP sig Prefetch.none cfg₁.spec,
            r.2.mem ((c.tc : Thread nD τ).loc b) = StableHlo.after opss.flatten (withArrays cfg₁.spec c (V₀ c) A) (Proc.devRef .tc b)

/-- The array of an input window ends as it began. -/
theorem Post.arr_in {cfg₁ : Cfg sig Λ₀} {rd : (c : Dev nD) → RDat τ Val Unit ℕ (UR sig nD τ) ℕ cfg₁ c}
    {V₀ : Dev nD → Valuation τ sig Val} {opss : List (List (HloOp τ sig Val))} {r : PUnit × MemSt nD τ sig Val}
    (h : Post rd V₀ opss r) (c : Dev nD) (w : Fin cfg₁.W) (hin : (cfg₁.win w).isOut = false) :
    r.2.mem ((cfg₁.spec w).arr.view.loc (c.tc : Thread nD τ)) = (rd c).A w := by
  have h1 := (h c).1 w
  rw [(rd c).ArrAt_in w hin] at h1
  exact h1

section Arrays

variable {cfg₁ : Cfg sig Λ₀} {c : Dev nD} (rd : RDat τ Val Unit ℕ (UR sig nD τ) ℕ cfg₁ c)

/-- The arrays after the write-backs, at contents chosen for all windows at once. -/
theorem arraysAt_choose (n : ℕ) :
    (rd.arraysAt n : sProp 𝕄) ⊢ iprop(∃ A, ⌜∀ w, rd.ArrAt w n (A w)⌝ ∗ rd.arrays A) := by
  unfold RDat.arraysAt RDat.arrays
  iintro H
  ihave H1 := (BI.bigSep_exists_pi Finset.univ (fun w F => iprop(⌜rd.ArrAt w n F⌝
    ∗ (cfg₁.win w).arr.view.loc (c.tc : Thread nD τ) ↦[(cfg₁.win w).arr.view.set]{rd.share w} F))) $$ H
  icases H1 with ⟨%A, H1⟩
  ihave H2 := (BI.bigSep_pure_sep Finset.univ (fun w => rd.ArrAt w n (A w))
    (fun w => (cfg₁.win w).arr.view.loc (c.tc : Thread nD τ) ↦[(cfg₁.win w).arr.view.set]{rd.share w} A w)) $$ H1
  icases H2 with ⟨%hA, H2⟩
  iexists A
  isplitr
  · ipureintro; exact fun w => hA w (Finset.mem_univ w)
  · iexact H2

/-- And back. -/
theorem arraysAt_of (n : ℕ) (A) (hA : ∀ w, rd.ArrAt w n (A w)) : (rd.arrays A : sProp 𝕄) ⊢ rd.arraysAt n := by
  unfold RDat.arraysAt RDat.arrays
  refine BI.bigSep_mono fun w _ => ?_
  show ((cfg₁.win w).arr.view.loc (c.tc : Thread nD τ) ↦[(cfg₁.win w).arr.view.set]{rd.share w} A w : sProp 𝕄)
    ⊢ iprop(∃ F, ⌜rd.ArrAt w n F⌝ ∗ (cfg₁.win w).arr.view.loc (c.tc : Thread nD τ) ↦[(cfg₁.win w).arr.view.set]{rd.share w} F)
  iintro H
  iexists (A w)
  isplitr
  · ipureintro; exact hA w
  · iexact H

end Arrays

variable (cfgs : P → Cfg sig Λ₀) (p : P) (kit : LaunchFacts (nD := nD) (τ := τ) cfgs p)
  (defs₀ : Defs nD τ sig Val Λ₀) (𝒱₀ : Variants)

include kit in
/-- The run of @main around its region, for relational proof data: the arrays end at contents the windows may leave, and the
    buffers the host lines write end at what the lines make of such contents. -/
theorem run (rd : (c : Dev nD) → RDat τ Val Unit ℕ (UR sig nD τ) ℕ (cfgs p) c)
    (m : (ℓ : Loc nD τ sig) → Buf Val ℓ) (g : Dev nD → PrngReg)
    (main : Dev nD → Prog (TpuEff nD τ sig Val (Sig Λ₀ P fun q => ((cfgs q).toPCfg (Val := Val)).Adm) .tc) PUnit)
    (hbody : ∀ c, (rd c).BodyObligation defs₀ 𝒱₀ () Set.univ)
    (hshare : ∀ c w, (rd c).share w = fullShare) (howed : ∀ c t, (rd c).owed t = 0)
    (V₀ : Dev nD → Valuation τ sig Val) (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hA : ∀ c w, (rd c).A w = V₀ c (Proc.devRef .tc (arrRef (cfgs p).spec w)))
    (hin : ∀ c, ΦA (cfgs p).spec c ⊢ (rd c).Φ 0)
    (hout : ∀ c, (rd c).Φ (Fin.last (cfgs p).N) ⊢ ΦA (cfgs p).spec c) :
    θ_run (Pipeline.defs (fun q => Cfg.toPCfg (Val := Val) (cfgs q)) defs₀) (onTc main) (s₀ m g)
      (fun r => Post rd V₀ opss r ∧ r.2.sem = fun _ => 0) := by
  classical
  have kit₀ := (LaunchFacts.toP (Val := Val) kit).to₀
  have hq : ∀ c w, ((cfgs p).spec w).isOut = false → (rd c).q w = shareOf (cfgs p).spec w :=
    fun c w hw => (rd c).q_eq_shareOf_of_share_full (LaunchFacts.toP (Val := Val) kit).win.arr_inj (hshare c) w hw
  have fam : ∀ c, RDat.familyOf (fun q => Cfg.toPCfg (Val := Val) (cfgs q)) (fun q => Cfg.toPCfg_adm (Val := Val) (cfgs q)) p rd p c = rd c := fun c => RDat.familyOf_self ..
  exact RDat.θ_run_region_pf_tail_quiescent (fun q => Cfg.toPCfg (Val := Val) (cfgs q)) (fun q => Cfg.toPCfg_adm (Val := Val) (cfgs q)) (RDat.familyOf (fun q => Cfg.toPCfg (Val := Val) (cfgs q)) (fun q => Cfg.toPCfg_adm (Val := Val) (cfgs q)) p rd) () (kit₀.cellOf_inj (fun q => Cfg.toPCfg_adm (Val := Val) (cfgs q))) p kit₀.win
    (OwnSemFacts.none (cfgs p).spec) kit₀.pre emb₁ defs₀ 𝒱₀ m g main
    (fun _ => chain (opss.map StableHlo.seq)) (fun c => by rw [fam]; exact hbody c)
    kit₀.block_pos kit₀.arr_whole kit₀.stage_whole (fun c t => by rw [fam]; exact howed c t)
    (G := fun _ => iprop(emp))
    (u₀ := initOf (cells (pin (fun q => Cfg.toPCfg (Val := Val) (cfgs q)) (fun q => Cfg.toPCfg_adm (Val := Val) (cfgs q))) (kit₀.cellOf_inj (fun q => Cfg.toPCfg_adm (Val := Val) (cfgs q)))) (launchToks (pin (fun q => Cfg.toPCfg (Val := Val) (cfgs q)) (fun q => Cfg.toPCfg_adm (Val := Val) (cfgs q))) (kit₀.cellOf_inj (fun q => Cfg.toPCfg_adm (Val := Val) (cfgs q)))))
    (hu₀ := by
      iintro Hu; imodintro
      isplitl [Hu]
      · iapply (show (ownU _ : sProp 𝕄) ⊢ BI.own (emb₁ (initOf (cells (pin (fun q => Cfg.toPCfg (Val := Val) (cfgs q)) (fun q => Cfg.toPCfg_adm (Val := Val) (cfgs q))) (kit₀.cellOf_inj (fun q => Cfg.toPCfg_adm (Val := Val) (cfgs q))))
          (launchToks (pin (fun q => Cfg.toPCfg (Val := Val) (cfgs q)) (fun q => Cfg.toPCfg_adm (Val := Val) (cfgs q))) (kit₀.cellOf_inj (fun q => Cfg.toPCfg_adm (Val := Val) (cfgs q)))))) from .rfl)
        iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := fun c => by
      rw [fam]
      exact (rd c).arrays_split_shared kit₀.sharedIn kit₀.arr_whole (hq c) _ _ (hA c))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfgs p).spec c
      (fun b => V₀ c (Proc.devRef .tc b)))
    (Z' := fun c => iprop(∃ A, ⌜∀ w, (rd c).ArrAt w (cfgs p).N (A w)⌝
      ∗ unscopedRestP (Ix := Unit) (Name := ℕ) (U := UR sig nD τ) (Lvl := ℕ) Prefetch.none (cfgs p).spec c
          (fun b => StableHlo.after opss.flatten (withArrays (cfgs p).spec c (V₀ c) A) (Proc.devRef .tc b))))
    (hX := fun c => by
      iintro ⟨HU, -, -, Hp, -⟩; imodintro
      isplitl [Hp]; · iexists _; iexact Hp
      iexact HU)
    (hin := fun c => by
      rw [fam]
      refine Entails.trans ?_ (hin c)
      unfold ΦA
      iintro ⟨Hp, Ht, Hr⟩
      isplitl [Hr] <;> iassumption)
    (hout := fun c => by
      rw [fam]
      refine (hout c).trans ?_
      rw [ownSems0_none]; unfold ΦA
      iintro ⟨Hr, Hp⟩
      isplitl [Hp]; · iexact Hp
      isplitr; · iempintro
      iexact Hr)
    (htail := fun c Q' => by
      iintro ⟨Hk, Hb, Ha, HZ⟩
      rw [fam]
      ihave Ha' := (arraysAt_choose (rd c) (cfgs p).N) $$ Ha
      icases Ha' with ⟨%A, %hA', Ha⟩
      have hB : (rd c).arrays A = arrBufs (cfgs p).spec c (fun b => withArrays (cfgs p).spec c (V₀ c) A (Proc.devRef .tc b)) :=
        ((rd c).arrBufs_eq_arrays kit₀.sharedIn kit₀.arr_whole (hq c) _ A fun w =>
          (withArrays_arr_shared (cfgs p).spec c (V₀ c) A
            ((rd c).ArrAt_sharedIn kit₀.sharedIn (V₀ c) (hA c) (cfgs p).N A hA') w).symm).symm
      iapply (tail_seqs_bufs_b (fun q => Cfg.toPCfg (Val := Val) (cfgs q)) defs₀ 𝒱₀ Prefetch.none (cfgs p).spec c (V₀ c) A opss hsub hfresh hkeep Q')
      isplitl [Hk]
      · iintro ⟨Hb2, Ha2, Hu⟩
        iapply Hk
        isplitl [Hb2]; · iexact Hb2
        isplitl [Ha2]; · iapply (arraysAt_of (rd c) (cfgs p).N A hA'); iapply (Entails.of_eq hB.symm); iexact Ha2
        iexists A
        isplitr
        · ipureintro; exact hA'
        · iexact Hu
      · isplitl [Hb]; · iexact Hb
        isplitl [Ha]; · iapply (Entails.of_eq hB); iexact Ha
        iexact HZ)
    (QY := fun c s => ∃ A : (w : Fin (cfgs p).W) → Buf Val (((cfgs p).spec w).arr.view.loc (c.tc : Thread nD τ)),
        (∀ w, (rd c).ArrAt w (cfgs p).N (A w))
        ∧ ∀ b ∈ restRefsP sig Prefetch.none (cfgs p).spec,
            s.mem ((c.tc : Thread nD τ).loc b) = StableHlo.after opss.flatten (withArrays (cfgs p).spec c (V₀ c) A) (Proc.devRef .tc b))
    (hY := fun c s' => by
      iintro ⟨-, HZ, HSI⟩
      icases HZ with ⟨%A, %hA', HZ⟩
      unfold unscopedRestP
      ihave HZ' := (pointsTo_read_all (restRefsP sig Prefetch.none (cfgs p).spec) (fun b => (c.tc : Thread nD τ).loc b)
        (fun b => StableHlo.after opss.flatten (withArrays (cfgs p).spec c (V₀ c) A) (Proc.devRef .tc b)) s') $$ [HZ HSI]
      · isplitl [HZ] <;> iassumption
      icases HZ' with ⟨%hZ, HSI⟩
      imodintro
      isplitr
      · ipureintro; exact ⟨A, hA', hZ⟩
      · iexact HSI)
    (hQ := fun s h hz => ⟨fun c => ⟨fun w => by simpa only [fam] using (h c).1 w, (h c).2.2⟩, hz⟩)

end Cert.Launch

end
-- ==== Proof.KernelIdeal.Value.lean ====
/- The kernel's run at its values: the two results hold whatever the held points of every query row give. -/
module

public import proofs.«01_k».proof.Proof.KernelIdeal.Inv
public import proofs.«01_k».proof.Proof.Launch
public import Idealize.ShloMosaic.Lib.Pipeline.DatRel
public import Idealize.ShloMosaic.Lib.Pipeline.ArrRel

@[expose] public section

set_option maxRecDepth 16384

noncomputable section

namespace Cert.KernelIdeal.Run

open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)
open Cert.KernelIdeal Cert.KernelIdeal.Gen Cert.Select

local notation "𝕄" => MT nD τ sig Unit (Elt Ideal) ℕ (UR sig nD τ) ℕ

variable (m : (ℓ : Loc nD τ sig) → Buf (Elt Ideal) ℓ) (ρ : Dev nD → PrngReg)
variable (tp : Dev nD → FVec Ideal S1024x16 .f32) (ty : Dev nD → IVec S1024x1 32)

/-- What the results must be: what any row of nearest points gives. -/
def Target : Prop := ∀ (c : Dev nD) (R : Fin 1024) (rd rc : Fin 16 → EReal),
  Between (dist (argX m c) (argT m c) R) (code (argY m c)) 100352 rd rc →
    (∀ s, outP rd rc s = tp c (ix2 R s)) ∧ outY rd rc = ty c (ix2 R 0)

/-- The probabilities are done up to the band of point `t`, once the last block is reached. -/
def doneP (c : Dev nD) (t : ℕ) (X : FVec Ideal S1024x16 .f32) : Prop :=
  1560 ≤ t → ∀ (R : Fin 1024) (s : Fin 16), R.val < 128 * (t - 1559) → X (ix2 R s) = tp c (ix2 R s)

/-- The predictions are done up to the band of point `t`, once the last block is reached. -/
def doneY (c : Dev nD) (t : ℕ) (X : IVec S1024x1 32) : Prop :=
  1560 ≤ t → ∀ R : Fin 1024, R.val < 128 * (t - 1559) → X (ix2 R 0) = ty c (ix2 R 0)

/-- What the two output windows' buffers satisfy after a point. -/
def rel (c : Dev nD) : (w : Fin cfg0.W) → Fin cfg0.N → ((cfg0.win w).block.Idx → Elt Ideal (cfg0.win w).elt) → Prop
  | ⟨3, _⟩, t, X => doneP tp c t.val X
  | ⟨4, _⟩, t, X => doneY ty c t.val X
  | _, _, _ => True

/-- The region's resources besides the windows before point `n`: the scratches in the invariant, and the generator register. -/
def carried (c : Dev nD) (n : ℕ) : sProp 𝕄 :=
  iprop(iprop((∃ d0 d1, ⌜Inv m c n d0 d1⌝ ∗ owns (c : Thread nD τ) scr0 fullShare d0 ∗ owns (c : Thread nD τ) scr1 fullShare d1)
      ∗ (∃ d, owns (c : Thread nD τ) scr2 fullShare d)) ∗ (∃ r, prngReg c r))

/-- Proof data that name the inputs' blocks and carry the invariant. -/
def vdat (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Pipeline.Dat.unnamed (cfg := cfg0) 3 t
    | ⟨4, _⟩ => Pipeline.Dat.unnamed (cfg := cfg0) 4 t
  Φ n := carried m c n.val
  q _ := fullShare
  owed _ := 0

/-- The same with the two outputs held to the relation. -/
abbrev vrel (c : Dev nD) : RDat τ (Elt Ideal) Unit ℕ (UR sig nD τ) ℕ cfg0 c := (vdat m c).toRRel outs (rel tp ty c)

theorem vA_eq (c : Dev nD) (w : Fin cfg0.W) : (vdat m c).A w = V m c (Pipeline.arrRef spec0 w) := by
  dsimp only [vdat]
theorem vafter0 (c : Dev nD) (t : Fin cfg0.N) : (vdat m c).after 0 t = iblk m c 0 t := by dsimp only [vdat]
theorem vafter1 (c : Dev nD) (t : Fin cfg0.N) : (vdat m c).after 1 t = iblk m c 1 t := by dsimp only [vdat]
theorem vafter2 (c : Dev nD) (t : Fin cfg0.N) : (vdat m c).after 2 t = iblk m c 2 t := by dsimp only [vdat]
theorem vbefore0 (c : Dev nD) (t : Fin cfg0.N) (d) : (vdat m c).before 0 t d = iblk m c 0 t :=
  before0_0_of m (vdat m c) (vA_eq m c 0) (vafter0 m c) t d
theorem vbefore1 (c : Dev nD) (t : Fin cfg0.N) (d) : (vdat m c).before 1 t d = iblk m c 1 t :=
  before0_1_of m (vdat m c) (vA_eq m c 1) (vafter1 m c) t d
theorem vbefore2 (c : Dev nD) (t : Fin cfg0.N) (d) : (vdat m c).before 2 t d = iblk m c 2 t :=
  before0_2_of m (vdat m c) (vA_eq m c 2) (vafter2 m c) t d

/-- What is found in the probabilities window after the first point was left there. -/
theorem finds3 (c : Dev nD) (t : Fin cfg0.N) (ht : t.val ≠ 0) (Y : FVec Ideal S1024x16 .f32) (h : (vrel m tp ty c).Finds 3 t Y) :
    doneP tp c (t.val - 1) Y := by
  have hN : t.val < 1568 := t.isLt
  have h1 := ((vrel m tp ty c).finds_of_pos (w := 3) (t := t) rfl ht Y).mp h
  rcases h1 with h1 | h1
  · have h2 := (flush0_3 _).mp h1
    have h3 : (t.val - 1) % 1568 = 1567 := h2
    omega
  · exact (vdat m c).toRRel_leaves (fgt := outs) (w := 3) rfl h1

/-- And in the predictions window. -/
theorem finds4 (c : Dev nD) (t : Fin cfg0.N) (ht : t.val ≠ 0) (Y : IVec S1024x1 32) (h : (vrel m tp ty c).Finds 4 t Y) :
    doneY ty c (t.val - 1) Y := by
  have hN : t.val < 1568 := t.isLt
  have h1 := ((vrel m tp ty c).finds_of_pos (w := 4) (t := t) rfl ht Y).mp h
  rcases h1 with h1 | h1
  · have h2 := (flush0_4 _).mp h1
    have h3 : (t.val - 1) % 1568 = 1567 := h2
    omega
  · exact (vdat m c).toRRel_leaves (fgt := outs) (w := 4) rfl h1

/-- A last-block point finishes its band of the probabilities. -/
theorem doneP_step (htar : Target m tp ty) (c : Dev nD) (hy : ∀ p, (argY m c (ix1 p)).toNat < 10) (t : Fin cfg0.N)
    (hc0 : ¬atFirst (grid0.coords t)) (hc1 : atLast (grid0.coords t)) (x3 : Vec Ideal S1024x16 .f32) (x4 : Vec Ideal S1024x1 .i32)
    (xs0 xs1 : Vec Ideal S1024x16 .f32) (hinv : Inv m c t.val xs0 xs1) (h3 : (vrel m tp ty c).Finds 3 t x3) :
    doneP tp c t.val (probC m c t hc0 hc1 x3 x4 xs0 xs1) := by
  have h1 := (atLast_iff t).mp hc1
  intro hle R s hR
  have hRlt := R.isLt
  by_cases hb : R.val / 128 = t.val % 8
  · have hr : R.val - 128 * (t.val % 8) < 128 := by omega
    have hR' : R.val = 128 * ((grid0.coords t) 1).val + (⟨R.val - 128 * (t.val % 8), hr⟩ : Fin 128).val := by
      rw [coord1]; show R.val = 128 * (t.val % 8) + (R.val - 128 * (t.val % 8)); omega
    rw [(outC m c t hc0 hc1 x3 x4 xs0 xs1).1 _ R hR' s]
    exact (htar c R _ _ (held_last m c hy t h1 xs0 xs1 hinv _ R hR')).1 s
  · rw [(outC m c t hc0 hc1 x3 x4 xs0 xs1).2 R (by rw [coord1]; omega) s]
    exact finds3 m tp ty c t (by omega) x3 h3 (by omega) R s (by omega)

/-- A last-block point finishes its band of the predictions. -/
theorem doneY_step (htar : Target m tp ty) (c : Dev nD) (hy : ∀ p, (argY m c (ix1 p)).toNat < 10) (t : Fin cfg0.N)
    (hc0 : ¬atFirst (grid0.coords t)) (hc1 : atLast (grid0.coords t)) (x3 : Vec Ideal S1024x16 .f32) (x4 : Vec Ideal S1024x1 .i32)
    (xs0 xs1 : Vec Ideal S1024x16 .f32) (hinv : Inv m c t.val xs0 xs1) (h4 : (vrel m tp ty c).Finds 4 t x4) :
    doneY ty c t.val (predC m c t hc0 hc1 x3 x4 xs0 xs1) := by
  have h1 := (atLast_iff t).mp hc1
  intro hle R hR
  have hRlt := R.isLt
  by_cases hb : R.val / 128 = t.val % 8
  · have hr : R.val - 128 * (t.val % 8) < 128 := by omega
    have hR' : R.val = 128 * ((grid0.coords t) 1).val + (⟨R.val - 128 * (t.val % 8), hr⟩ : Fin 128).val := by
      rw [coord1]; show R.val = 128 * (t.val % 8) + (R.val - 128 * (t.val % 8)); omega
    rw [(outYC m c t hc0 hc1 x3 x4 xs0 xs1).1 _ R hR']
    exact (htar c R _ _ (held_last m c hy t h1 xs0 xs1 hinv _ R hR')).2
  · rw [(outYC m c t hc0 hc1 x3 x4 xs0 xs1).2 R (by rw [coord1]; omega)]
    exact finds4 m tp ty c t (by omega) x4 h4 (by omega) R (by omega)

/-- What the body is called with at a point, and what it returns. -/
def vPre (c : Dev nD) (t : Fin cfg0.N) : sProp 𝕄 :=
  iprop(carried m c t.val ∗ (vdat m c).owesAt () t.castSucc
    ∗ (∃ d, owns (c : Thread nD τ) (mem0 t) fullShare ((vdat m c).before 0 t d))
    ∗ (∃ d, owns (c : Thread nD τ) (mem1 t) fullShare ((vdat m c).before 1 t d))
    ∗ (∃ d, owns (c : Thread nD τ) (mem2 t) fullShare ((vdat m c).before 2 t d))
    ∗ (∃ Y, ⌜(vrel m tp ty c).Finds 3 t Y⌝ ∗ owns (c : Thread nD τ) (mem3 t) fullShare Y)
    ∗ (∃ Y, ⌜(vrel m tp ty c).Finds 4 t Y⌝ ∗ owns (c : Thread nD τ) (mem4 t) fullShare Y))
def vPost (c : Dev nD) (t : Fin cfg0.N) : sProp 𝕄 :=
  iprop(carried m c (t.val + 1) ∗ (vdat m c).owesAt () t.succ
    ∗ owns (c : Thread nD τ) (mem0 t) fullShare ((vdat m c).after 0 t)
    ∗ owns (c : Thread nD τ) (mem1 t) fullShare ((vdat m c).after 1 t)
    ∗ owns (c : Thread nD τ) (mem2 t) fullShare ((vdat m c).after 2 t)
    ∗ (∃ X, ⌜rel tp ty c 3 t X⌝ ∗ owns (c : Thread nD τ) (mem3 t) fullShare X)
    ∗ (∃ X, ⌜rel tp ty c 4 t X⌝ ∗ owns (c : Thread nD τ) (mem4 t) fullShare X))

set_option maxHeartbeats 4000000 in
/-- The body at any point takes the one to the other, by the run of its case. -/
theorem vbody (htar : Target m tp ty) (c : Dev nD) (hy : ∀ p, (argY m c (ix1 p)).toNat < 10) (t : Fin cfg0.N) :
    vPre m tp ty c t ⊢ wp frame (wpE (defs₀ (F := Ideal)) Variants.none c none) Set.univ (bodyAt0 t) (fun _ => vPost m tp ty c t) := by
  unfold vPre vPost bodyAt0 carried
  simp only [vbefore0, vbefore1, vbefore2, vafter0, vafter1, vafter2]
  rw [show (vdat m c).owesAt () t.succ = (vdat m c).owesAt () t.castSucc from rfl]
  iintro ⟨⟨⟨⟨%ds0, %ds1, %hinv, HS0, HS1⟩, HS2⟩, Hg⟩, Ho, ⟨%d0, H0⟩, ⟨%d1, H1⟩, ⟨%d2, H2⟩, ⟨%d3, %h3, H3⟩, ⟨%d4, %h4, H4⟩⟩
  have hN : t.val < 1568 := t.isLt
  by_cases h0 : t.val / 8 = 0
  · have hc0 : atFirst (grid0.coords t) := (atFirst_iff t).mpr h0
    have hc1 : ¬atLast (grid0.coords t) := fun h => by have := (atLast_iff t).mp h; omega
    iapply ((runA c (grid0.coords t) _ (memW0 t) _ (memW1 t) _ (memW2 t) _ (memW3 t) _ (memW4 t) _ _ _ _ _ _ hc0 hc1 (iblk m c 0 t) (iblk m c 1 t) (iblk m c 2 t) d3 d4 ds0 ds1).2.2 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, ⟨%fT2, HS2⟩⟩
    isplitl [HS0 HS1 HS2 Hg]
    · isplitl [HS0 HS1 HS2]
      · isplitl [HS0 HS1]
        · iexists (scrA0 m c t hc0 hc1 d3 d4 ds0 ds1); iexists (scrA1 m c t hc0 hc1 d3 d4 ds0 ds1)
          isplitr
          · ipureintro; exact invA m c hy t hc0 hc1 d3 d4 ds0 ds1 hinv
          isplitl [HS0]
          · unfold owns; iexists _; isplitr
            swap; · iexact HS0
            ipureintro; rfl
          unfold owns; iexists _; isplitr
          swap; · iexact HS1
          ipureintro; rfl
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]
    · iexists d3; isplitr
      · ipureintro; exact fun h => absurd h (by omega)
      iexact H3
    iexists d4; isplitr
    · ipureintro; exact fun h => absurd h (by omega)
    iexact H4
  · by_cases h1 : t.val / 8 = 195
    · have hc0 : ¬atFirst (grid0.coords t) := fun h => h0 ((atFirst_iff t).mp h)
      have hc1 : atLast (grid0.coords t) := (atLast_iff t).mpr h1
      iapply ((runC c (grid0.coords t) _ (memW0 t) _ (memW1 t) _ (memW2 t) _ (memW3 t) _ (memW4 t) _ _ _ _ _ _ hc0 hc1 (iblk m c 0 t) (iblk m c 1 t) (iblk m c 2 t) d3 d4 ds0 ds1).2.2.2.2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, ⟨%fT2, HS2⟩⟩
      isplitl [HS0 HS1 HS2 Hg]
      · isplitl [HS0 HS1 HS2]
        · isplitl [HS0 HS1]
          · iexists (scrC0 m c t hc0 hc1 d3 d4 ds0 ds1); iexists (scrC1 m c t hc0 hc1 d3 d4 ds0 ds1)
            isplitr
            · ipureintro; exact invC m c hy t hc0 hc1 d3 d4 ds0 ds1 hinv
            isplitl [HS0]
            · unfold owns; iexists _; isplitr
              swap; · iexact HS0
              ipureintro; rfl
            unfold owns; iexists _; isplitr
            swap; · iexact HS1
            ipureintro; rfl
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]
      · iexists (probC m c t hc0 hc1 d3 d4 ds0 ds1); isplitr
        · ipureintro; exact doneP_step m tp ty htar c hy t hc0 hc1 d3 d4 ds0 ds1 hinv h3
        unfold owns; iexists _; isplitr
        swap; · iexact H3
        ipureintro; rfl
      iexists (predC m c t hc0 hc1 d3 d4 ds0 ds1); isplitr
      · ipureintro; exact doneY_step m tp ty htar c hy t hc0 hc1 d3 d4 ds0 ds1 hinv h4
      unfold owns; iexists _; isplitr
      swap; · iexact H4
      ipureintro; rfl
    · have hc0 : ¬atFirst (grid0.coords t) := fun h => h0 ((atFirst_iff t).mp h)
      have hc1 : ¬atLast (grid0.coords t) := fun h => h1 ((atLast_iff t).mp h)
      iapply ((runB c (grid0.coords t) _ (memW0 t) _ (memW1 t) _ (memW2 t) _ (memW3 t) _ (memW4 t) _ _ _ _ _ _ hc0 hc1 (iblk m c 0 t) (iblk m c 1 t) (iblk m c 2 t) d3 d4 ds0 ds1).2.2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, ⟨%fT2, HS2⟩⟩
      isplitl [HS0 HS1 HS2 Hg]
      · isplitl [HS0 HS1 HS2]
        · isplitl [HS0 HS1]
          · iexists (scrB0 m c t hc0 hc1 d3 d4 ds0 ds1); iexists (scrB1 m c t hc0 hc1 d3 d4 ds0 ds1)
            isplitr
            · ipureintro; exact invB m c hy t hc0 hc1 d3 d4 ds0 ds1 hinv
            isplitl [HS0]
            · unfold owns; iexists _; isplitr
              swap; · iexact HS0
              ipureintro; rfl
            unfold owns; iexists _; isplitr
            swap; · iexact HS1
            ipureintro; rfl
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]
      · iexists d3; isplitr
        · ipureintro; exact fun h => absurd h (by omega)
        iexact H3
      iexists d4; isplitr
      · ipureintro; exact fun h => absurd h (by omega)
      iexact H4

/-- The library's body obligation, the outputs held to the relation. -/
theorem vobligation (htar : Target m tp ty) (c : Dev nD) (hy : ∀ p, (argY m c (ix1 p)).toNat < 10) :
    BodyObligationRel (vdat m c) (defs₀ (F := Ideal)) Variants.none () Set.univ outs (rel tp ty c) := fun t => by
  rw [bigSep_W0, bigSep_W0, body_row]
  exact triple_restated (vbody m tp ty htar c hy t) rfl .rfl fun _ => .rfl

/-- What the region is entered with is the invariant before the first point. -/
theorem vin (c : Dev nD) : (Pipeline.ΦA spec0 c : sProp 𝕄) ⊢ (vrel m tp ty c).Φ 0 := by
  show (Pipeline.ΦA spec0 c : sProp 𝕄) ⊢ carried m c 0
  rw [restA_eq]
  unfold carried
  iintro ⟨⟨⟨%d0, H0⟩, ⟨%d1, H1⟩, H2⟩, Hg⟩
  isplitr [Hg]
  · isplitr [H2]
    · iexists d0; iexists d1
      isplitr
      · ipureintro; exact inv_zero m c d0 d1
      isplitl [H0]; · iexact H0
      iexact H1
    · iexact H2
  · iexact Hg

/-- The invariant after the last point is what the region leaves. -/
theorem vout (c : Dev nD) : (vrel m tp ty c).Φ (Fin.last cfg0.N) ⊢ (Pipeline.ΦA spec0 c : sProp 𝕄) := by
  show carried m c (Fin.last cfg0.N).val ⊢ (Pipeline.ΦA spec0 c : sProp 𝕄)
  rw [restA_eq]
  unfold carried
  iintro ⟨⟨⟨%d0, %d1, -, H0, H1⟩, H2⟩, Hg⟩
  isplitr [Hg]
  · isplitl [H0]; · iexists d0; iexact H0
    isplitl [H1]; · iexists d1; iexact H1
    iexact H2
  · iexact Hg

set_option backward.isDefEq.respectTransparency.types false in
set_option maxHeartbeats 800000 in
/-- The launch at its values. -/
theorem vrun (htar : Target m tp ty) (hy : ∀ c p, (argY m c (ix1 p)).toNat < 10) :
    θ_run defs (onTc (τ := τ) (main (F := Ideal))) (s₀ m ρ)
      (fun r => Launch.Post (vrel m tp ty) (V0 m) [hostOps1] r ∧ r.2.sem = fun _ => 0) :=
  Launch.run cfgs (0 : Fin 1) launch0 defs₀ Variants.none (vrel m tp ty) m ρ main
    (hbody := fun c => (vobligation m tp ty htar c (hy c)).toRRel) (hshare := fun c => (vdat m c).share_full fun _ => rfl)
    (howed := fun _ _ => rfl) (V₀ := V0 m) (opss := [hostOps1]) (hsub := sfx_sub) (hfresh := sfx_fresh) (hkeep := sfx_keeps)
    (hmain := hmain m Variants.none) (hA := vA_eq m) (hin := vin m tp ty) (hout := vout m tp ty)

theorem whole3 : (cfg0.win 3).WholeAt (⟨1567, by decide⟩ : Fin grid0.N) :=
  (by decide +kernel : win0_3.WholeAt (⟨1567, by decide⟩ : Fin grid0.N))
theorem whole4 : (cfg0.win 4).WholeAt (⟨1567, by decide⟩ : Fin grid0.N) :=
  (by decide +kernel : win0_4.WholeAt (⟨1567, by decide⟩ : Fin grid0.N))

/-- The probabilities array at the end. -/
theorem arr3 (c : Dev nD) (G : FVec Ideal S1024x16 .f32) (hG : (vrel m tp ty c).ArrAt 3 cfg0.N G) (R : Fin 1024) (s : Fin 16) :
    G (ix2 R s) = tp c (ix2 R s) := by
  obtain ⟨X, hX, hv⟩ := hG.emb_eq_of_wholeAt (t₀ := (⟨1567, by decide⟩ : Fin grid0.N)) whole3
  have h1 : doneP tp c 1567 X := (vdat m c).toRRel_leaves (fgt := outs) (w := 3) rfl hX
  have h2 := h1 (by omega) R s (by have := R.isLt; omega)
  have h3 := hv (ix2 R s)
  blk_simp at h3
  exact h3.trans h2

/-- The predictions array at the end. -/
theorem arr4 (c : Dev nD) (G : IVec S1024x1 32) (hG : (vrel m tp ty c).ArrAt 4 cfg0.N G) (R : Fin 1024) :
    G (ix2 R 0) = ty c (ix2 R 0) := by
  obtain ⟨X, hX, hv⟩ := hG.emb_eq_of_wholeAt (t₀ := (⟨1567, by decide⟩ : Fin grid0.N)) whole4
  have h1 : doneY ty c 1567 X := (vdat m c).toRRel_leaves (fgt := outs) (w := 4) rfl hX
  have h2 := h1 (by omega) R (by have := R.isLt; omega)
  have h3 := hv (ix2 R 0)
  blk_simp at h3
  exact h3.trans h2

/-- The predictions result, off an array of predictions. -/
theorem after_v12 (W : Valuation τ sig (Elt Ideal)) (R : Fin 1024) :
    (StableHlo.after [hostOps1].flatten W (Proc.devRef .tc main_v12) : IVec S1024 32) (ix1 R)
      = (W (Proc.devRef .tc main_v11_1) : IVec S1024x1 32) (ix2 R 0) := by
  simp only [List.flatten_cons, List.flatten_nil, List.append_nil]
  after_reads_at

/-- The probabilities result, off an array of probabilities. -/
theorem after_v13 (W : Valuation τ sig (Elt Ideal)) (R : Fin 1024) (a : Fin 10) :
    (StableHlo.after [hostOps1].flatten W (Proc.devRef .tc main_v13) : FVec Ideal S1024x10 .f32) (ix2 R a)
      = (W (Proc.devRef .tc main_v11_0) : FVec Ideal S1024x16 .f32) (ix2 R (a.castLE (by omega))) := by
  simp only [List.flatten_cons, List.flatten_nil, List.append_nil]
  after_reads_at
  rfl

/-- A buffer outside the region, not an array's and not written by the host lines, ends as it was when the region began. -/
theorem after_kept (c : Dev nD) (A) (b : Ref sig .tc) (hb : b ∉ ({main_v12, main_v13} : Finset (Ref sig .tc)))
    (hn : ∀ w, Pipeline.arrRef spec0 w ≠ b) :
    StableHlo.after [hostOps1].flatten (Pipeline.withArrays spec0 c (V0 m c) A) (Proc.devRef .tc b) = V m c b := by
  rw [StableHlo.after_of_forall_not_mem _ _ fun op hop hw => ?_, Pipeline.withArrays_of_ne spec0 c _ A b hn]
  obtain ⟨ops, hops, hop'⟩ := List.mem_flatten.mp hop
  exact hb (sfx_writes ops hops op hop' b hw)

/-- A buffer that bypasses the region. -/
theorem bypass (b : Ref sig .tc) (h : b ∈ Pipeline.restRefs sig spec0) : b ∈ Pipeline.restRefsP sig Pipeline.Prefetch.none spec0 :=
  Finset.mem_sdiff.mpr ⟨h, fun hc => by
    obtain ⟨k, -, -⟩ := Finset.mem_image.mp hc
    exact k.elim0⟩

/-- The kernel's run at its values: the predictions and the probabilities, the arguments unchanged. -/
theorem value (htar : Target m tp ty) (hy : ∀ c p, (argY m c (ix1 p)).toNat < 10) :
    θ_run defs (onTc (τ := τ) (main (F := Ideal))) ⟨m, fun _ => 0, ρ⟩ (fun r => ∀ c : Dev nD,
      (∀ R : Fin 1024, (r.2.mem ((c.tc : Thread nD τ).loc main_v12) : IVec S1024 32) (ix1 R) = ty c (ix2 R 0))
      ∧ (∀ (R : Fin 1024) (a : Fin 10), (r.2.mem ((c.tc : Thread nD τ).loc main_v13) : FVec Ideal S1024x10 .f32) (ix2 R a)
          = tp c (ix2 R (a.castLE (by omega))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (vrun m ρ tp ty htar hy)
  obtain ⟨h, -⟩ := h
  obtain ⟨A, hA, hrest⟩ := (h c).2
  refine ⟨fun R => ?_, fun R a => ?_, (Launch.Post.arr_in h c 0 rfl).trans (V_main_arg0 m c), ?_, ?_⟩
  · rw [hrest main_v12 (bypass _ (Pipeline.mem_restRefs_of main_v12 (by decide) (by decide)))]
    refine (after_v12 _ R).trans ?_
    refine (congrFun (Pipeline.withArrays_arr spec0 winFacts0.arr_inj c (V0 m c) A 4) _).trans ?_
    exact arr4 m tp ty c (A 4) (hA 4) R
  · rw [hrest main_v13 (bypass _ (Pipeline.mem_restRefs_of main_v13 (by decide) (by decide)))]
    refine (after_v13 _ R a).trans ?_
    refine (congrFun (Pipeline.withArrays_arr spec0 winFacts0.arr_inj c (V0 m c) A 3) _).trans ?_
    exact arr3 m tp ty c (A 3) (hA 3) R _
  · rw [hrest main_arg1 (bypass _ (Pipeline.mem_restRefs_of main_arg1 (by decide) (by decide)))]
    exact (after_kept m c A main_arg1 (by decide) (by decide)).trans (V_main_arg1 m c)
  · rw [hrest main_arg2 (bypass _ (Pipeline.mem_restRefs_of main_arg2 (by decide) (by decide)))]
    exact (after_kept m c A main_arg2 (by decide) (by decide)).trans (V_main_arg2 m c)

end Cert.KernelIdeal.Run

end
-- ==== Proof.Reference.Nearest.lean ====
/- What the sorted distances of a query are: the reference's nearest training points, in order. -/
module

public import proofs.«01_k».proof.Proof.Reference.Run
public import Idealize.ShloMosaic.Lib.SortFacts
public import Idealize.ShloMosaic.Lib.Pointwise

@[expose] public section

set_option maxRecDepth 16384

noncomputable section

namespace Cert.ReferenceIdeal.Value

open Idealize.ShloMosaic Idealize.ShloMosaic.Pointwise
open Cert.ReferenceIdeal

/-- The column at place `k` of row `R`'s columns ordered by their entry, equal entries in index order. -/
def srcOf {M N : ℕ} (d : FVec Ideal ⟨2, ![M, N]⟩ .f32) (R : Fin M) : Fin N → Fin N :=
  sortedFrom fun k k' => decide ((d (ix2 R k) : EReal) < d (ix2 R k'))

/-- The training point at place `k` of query `R`'s points ordered from the nearest on, equal distances in index order. -/
abbrev src (d : FVec Ideal S1024x100000 .f32) (R : Fin 1024) : Fin 100000 → Fin 100000 := srcOf d R

/-- A row's element put at another place of the row. -/
theorem along_row {M N : ℕ} (R : Fin M) (k k' : Fin N) (h : 1 < (⟨2, ![M, N]⟩ : Shape).rank) :
    (ix2 R k : (⟨2, ![M, N]⟩ : Shape).Idx).along ⟨1, h⟩ k' = ix2 R k' := by
  funext a
  match a with
  | ⟨0, _⟩ => rfl
  | ⟨1, _⟩ => rfl

/-- Negated distances compare the other way round. -/
theorem before_eq (a b : EReal) :
    (FloatOps.cmpfTotal (F := Ideal) (φ := .f32) .gt (-a : EReal) (-b : EReal) == 1#1) = decide (a < b) := by
  have h : FloatOps.cmpfTotal (F := Ideal) (φ := .f32) .gt (-a : EReal) (-b : EReal)
      = BitVec.ofBool (decide (-b < -a)) := rfl
  rw [h]
  by_cases hh : a < b
  · have := EReal.neg_lt_neg_iff.mpr hh
    simp [hh]
  · have : ¬ -b < -a := fun h' => hh (EReal.neg_lt_neg_iff.mp h')
    simp [hh]

/-- A row of sorted negated entries, and another array carried along, at a place. -/
theorem sort_row {M N : ℕ} {β : Type} (d : FVec Ideal ⟨2, ![M, N]⟩ .f32) (y : (⟨2, ![M, N]⟩ : Shape).Idx → β) (R : Fin M) (k : Fin N) :
    (Host.sort2 ⟨2, ![M, N]⟩ 1 (fun l r => FloatOps.cmpfTotal (F := Ideal) (φ := .f32) .gt l.1 r.1) (Host.negf d) y).1 (ix2 R k)
        = (-(d (ix2 R (srcOf d R k)) : EReal) : EReal)
    ∧ (Host.sort2 ⟨2, ![M, N]⟩ 1 (fun l r => FloatOps.cmpfTotal (F := Ideal) (φ := .f32) .gt l.1 r.1) (Host.negf d) y).2 (ix2 R k)
        = y (ix2 R (srcOf d R k)) := by
  have hd : 1 < (⟨2, ![M, N]⟩ : Shape).rank := Nat.lt_succ_self 1
  have hs : sortedFrom (fun k₁ k₂ : Fin N => FloatOps.cmpfTotal (F := Ideal) (φ := .f32) .gt
      (Host.negf d ((ix2 R k : (⟨2, ![M, N]⟩ : Shape).Idx).along ⟨1, hd⟩ k₁))
      (Host.negf d ((ix2 R k : (⟨2, ![M, N]⟩ : Shape).Idx).along ⟨1, hd⟩ k₂)) == 1#1) = srcOf d R := by
    unfold srcOf
    congr 1
    funext k₁ k₂
    rw [along_row R k k₁, along_row R k k₂]
    exact before_eq _ _
  have e := (congrArg (fun f : Fin N → Fin N => (ix2 R k : (⟨2, ![M, N]⟩ : Shape).Idx).along ⟨1, hd⟩ (f k)) hs).trans
    (along_row R k (srcOf d R k) hd)
  unfold Host.sort2
  rw [dif_pos hd]
  exact ⟨congrArg (Host.negf d) e, congrArg y e⟩

/-- The first `n` of a row of sorted negated entries and their indices. -/
theorem topK_row {M N : ℕ} (d : FVec Ideal ⟨2, ![M, N]⟩ .f32) (n : ℕ) (hn : n ≤ N)
    (h : (⟨2, ![M, N]⟩ : Shape).Slices (fun _ => 0) ⟨2, ![M, n]⟩) (R : Fin M) (k : Fin n) :
    (Host.topK ⟨2, ![M, n]⟩ 1 (FloatOps.cmpfTotal (F := Ideal) (φ := .f32) .gt) (Host.negf d) h).1 (ix2 R k)
        = (-(d (ix2 R (srcOf d R (k.castLE hn))) : EReal) : EReal)
    ∧ (Host.topK ⟨2, ![M, n]⟩ 1 (FloatOps.cmpfTotal (F := Ideal) (φ := .f32) .gt) (Host.negf d) h).2 (ix2 R k)
        = BitVec.ofNat 32 (srcOf d R (k.castLE hn)).val := by
  have hj : (fun a => ⟨(fun _ => 0 : Fin (⟨2, ![M, N]⟩ : Shape).rank → ℕ) a + ((ix2 R k : (⟨2, ![M, n]⟩ : Shape).Idx) (a.cast h.1.symm)).val,
      Nat.lt_of_lt_of_le (Nat.add_lt_add_left ((ix2 R k : (⟨2, ![M, n]⟩ : Shape).Idx) _).isLt _) (h.2 a)⟩ : (⟨2, ![M, N]⟩ : Shape).Idx)
      = ix2 R (k.castLE hn) := by
    funext a
    match a with
    | ⟨0, _⟩ => exact Fin.ext (Nat.zero_add _)
    | ⟨1, _⟩ => exact Fin.ext (Nat.zero_add _)
  have hd : 1 < (⟨2, ![M, N]⟩ : Shape).rank := Nat.lt_succ_self 1
  have hs := sort_row d (fun i => if hd : 1 < (⟨2, ![M, N]⟩ : Shape).rank then iotaInDim (⟨2, ![M, N]⟩ : Shape) 32 ⟨1, hd⟩ i else 0#32)
    R (k.castLE hn)
  unfold Host.topK extractStridedSlice
  exact ⟨(congrArg _ hj).trans hs.1, (congrArg _ hj).trans (hs.2.trans (by rw [dif_pos hd]; rfl))⟩

/-- Points in order are no nearer than those before them. -/
theorem src_mono (d : FVec Ideal S1024x100000 .f32) (R : Fin 1024) (i j : Fin 100000) (hij : i ≤ j) :
    (d (ix2 R (src d R i)) : EReal) ≤ d (ix2 R (src d R j)) := by
  rcases hij.lt_or_eq with h | h
  · have := sortedFrom_noInversion (fun k k' => decide ((d (ix2 R k) : EReal) < d (ix2 R k')))
      (fun k k' => decide ((d (ix2 R k) : EReal) < d (ix2 R k')))
      (fun a b hab => by simp only [decide_eq_true_eq, decide_eq_false_iff_not, not_lt] at hab ⊢; exact hab.le)
      (fun a b hab => hab)
      (fun a b c h1 h2 => by simp only [decide_eq_false_iff_not, not_lt] at h1 h2 ⊢; exact h2.trans h1) i j h
    simpa [src, srcOf] using this
  · rw [h]

/-- Different places hold different points. -/
theorem src_injective (d : FVec Ideal S1024x100000 .f32) (R : Fin 1024) : Function.Injective (src d R) :=
  sortedFrom_injective _

/-- Every point is at some place. -/
theorem src_surjective (d : FVec Ideal S1024x100000 .f32) (R : Fin 1024) : Function.Surjective (src d R) :=
  sortedFrom_surjective _

/-- With a gap after place fourteen, the first fifteen points are strictly nearer than every other. -/
theorem src_nearest (d : FVec Ideal S1024x100000 .f32) (R : Fin 1024)
    (hgap : (d (ix2 R (src d R 14)) : EReal) < d (ix2 R (src d R 15))) (k : Fin 15) (p : Fin 100000)
    (hp : ∀ k' : Fin 15, src d R (k'.castLE (by omega)) ≠ p) :
    (d (ix2 R (src d R (k.castLE (by omega)))) : EReal) < d (ix2 R p) := by
  obtain ⟨j, rfl⟩ := src_surjective d R p
  have hj : 15 ≤ j.val := by
    by_contra hlt
    exact hp ⟨j.val, by omega⟩ (congrArg (src d R) (Fin.ext rfl))
  refine lt_of_le_of_lt (src_mono d R _ 14 ?_) (lt_of_lt_of_le hgap (src_mono d R 15 j ?_))
  · show k.val ≤ 14 % 100000
    have := k.isLt; omega
  · show 15 % 100000 ≤ j.val
    omega

end Cert.ReferenceIdeal.Value

end
-- ==== Proof.Reference.Reads.lean ====
/- The reference's values at an index: its distances, the labels it takes, its indicators, their mean and the class it picks. -/
module

public import proofs.«01_k».proof.Proof.Reference.Nearest
public import Idealize.ShloMosaic.Lib.StableHlo.Predicate

@[expose] public section

set_option maxRecDepth 16384

noncomputable section

namespace Cert.ReferenceIdeal.Value

open Idealize.ShloMosaic Idealize.ShloMosaic.Pointwise
open Cert.ReferenceIdeal Cert.ReferenceIdeal.Facts₀ Cert.ReferenceIdeal.Facts

variable [Cert.ReferenceIdeal.Facts]

/-- The pattern of two. -/
theorem ofBits_two : FloatOps.ofBits (F := Ideal) .f32 0x40000000#32 = ((2 : ℝ) : EReal) := by
  show Ideal.ofBits .f32 0x40000000#32 = _
  simp [Ideal.ofBits, Ideal.ieee, -EReal.coe_mul]
  norm_num

/-- The pattern of fifteen. -/
theorem ofBits_fifteen : FloatOps.ofBits (F := Ideal) .f32 0x41700000#32 = ((15 : ℝ) : EReal) := by
  show Ideal.ofBits .f32 0x41700000#32 = _
  simp [Ideal.ofBits, Ideal.ieee, -EReal.coe_mul]
  norm_num

/-- The squared distance from query `R` to point `p`, expanded. -/
theorem dist_at (x : FVec Ideal S1024x16 .f32) (tx : FVec Ideal S100000x16 .f32) (R : Fin 1024) (p : Fin 100000) :
    Run.dist x tx (ix2 R p) = ((∑ k, x (ix2 R k) * x (ix2 R k) - ((2 : ℝ) : EReal) * ∑ k, x (ix2 R k) * tx (ix2 p k))
      + ∑ k, tx (ix2 p k) * tx (ix2 p k) : EReal) := by
  unfold Run.dist
  pointwise
  rw [show Ideal.ofBits FTy.f32 1073741824#32 = ((2 : ℝ) : EReal) from ofBits_two]

/-- The mean of a row's fifteen indicators. -/
theorem mean_at (h : FVec Ideal S1024x15x10 .f32) (R : Fin 1024) (a : Fin 10) :
    Run.mean h (ix2 R a) = ((∑ k : Fin 15, (h (ix3 R k a) : EReal)) / ((15 : ℝ) : EReal) : EReal) := by
  unfold Run.mean
  pointwise
  rw [show Ideal.ofBits FTy.f32 1097859072#32 = ((15 : ℝ) : EReal) from ofBits_fifteen]
  unfold Ideal.div
  rw [if_neg (by norm_num)]
  rfl

/-- A label's indicator. -/
theorem oneHot_at (l : IVec S1024x15 32) (R : Fin 1024) (k : Fin 15) (a : Fin 10) :
    Run.oneHot (F := Ideal) l (ix3 R k a) = (if l (ix2 R k) = BitVec.ofNat 32 a.val then 1 else 0 : EReal) := by
  unfold Run.oneHot
  pointwise
  by_cases h : l (ix2 R k) = BitVec.ofNat 32 a.val
  · rw [if_pos h, h, show IntOp.cmpi .eq (BitVec.ofNat 32 a.val) (BitVec.ofNat 32 a.val) = 1#1 from StableHlo.Predicate.cmpi_eq_iff.mpr rfl]
    show (((1#1).toNat : ℝ) : EReal) = 1
    simp
  · have h0 : IntOp.cmpi .eq (l (ix2 R k)) (BitVec.ofNat 32 a.val) = 0#1 :=
      (BitVec.eq_zero_or_eq_one _).resolve_right fun h1 => h (StableHlo.Predicate.cmpi_eq_iff.mp h1)
    rw [if_neg h, h0]
    show (((0#1).toNat : ℝ) : EReal) = 0
    simp

/-- An index that is not below zero is kept. -/
theorem wrap_at (i : IVec S1024x15 32) (R : Fin 1024) (k : Fin 15) (n : ℕ) (hn : n < 100000) (hi : i (ix2 R k) = BitVec.ofNat 32 n) :
    Run.wrap i (ix3 R k 0) = BitVec.ofNat 32 n := by
  unfold Run.wrap
  pointwise
  rw [hi]
  have h0 : IntOp.cmpi .slt (BitVec.ofNat 32 n) 0#32 ≠ 1#1 := fun h => by
    have := (StableHlo.Predicate.slt_ofNat_iff n 0 (by omega) (by omega)).mp h
    omega
  exact if_neg h0

/-- The gathered label at an index in range. -/
theorem gather_at (y : IVec S100000 32) (i : IVec S1024x15x1 32) (R : Fin 1024) (k : Fin 15) (n : ℕ) (hn : n < 100000)
    (hi : i (ix3 R k 0) = BitVec.ofNat 32 n) :
    Host.gather gather_S100000_S1024x15x1_S1024x15_n_0_n_n_0_2_1 y i (ix2 R k) = y (ix1 ⟨n, hn⟩) := by
  unfold Host.gather
  congr 1
  funext z
  have hz : z = 0 := Subsingleton.elim _ _
  subst hz
  apply Fin.ext
  have hb : (0 : Fin 1) ∉ gather_S100000_S1024x15x1_S1024x15_n_0_n_n_0_2_1.operandBatchingDims := List.not_mem_nil
  have hk : (0 : Fin 1) ∉ gather_S100000_S1024x15x1_S1024x15_n_0_n_n_0_2_1.sKept := by
    rw [GatherDims.mem_sKept]; simp [gather_S100000_S1024x15x1_S1024x15_n_0_n_n_0_2_1]
  have hm : (0 : Fin 1) ∈ gather_S100000_S1024x15x1_S1024x15_n_0_n_n_0_2_1.startIndexMap := List.mem_singleton.mpr rfl
  have hs : ∀ c, gather_S100000_S1024x15x1_S1024x15_n_0_n_n_0_2_1.siIdx (ix2 R k) c = (ix3 R k (0 : Fin 1) : S1024x15x1.Idx) := by
    intro c
    funext b
    match b with
    | ⟨0, _⟩ => exact Fin.ext rfl
    | ⟨1, _⟩ => exact Fin.ext rfl
    | ⟨2, _⟩ =>
      have hc : c.val < 1 := c.isLt
      exact Fin.ext (Nat.lt_one_iff.mp hc)
  simp only [GatherDims.operandIdx, GatherDims.batchCoord_eq_zero _ _ _ hb, GatherDims.offCoord_eq_zero _ _ _ hk,
    Nat.add_zero, GatherDims.start, dif_pos hm]
  rw [hs, hi, StableHlo.Predicate.toInt_ofNat_small n (by omega)]
  show min (Int.toNat (n : ℤ)) (100000 - 1) = n
  rw [Int.toNat_natCast]
  omega

/-- The label taken at an index in range. -/
theorem take_at (y : IVec S100000 32) (i : IVec S1024x15x1 32) (R : Fin 1024) (k : Fin 15) (n : ℕ) (hn : n < 100000)
    (hi : i (ix3 R k 0) = BitVec.ofNat 32 n) : Run.take y i (ix2 R k) = y (ix1 ⟨n, hn⟩) := by
  unfold Run.take
  pointwise
  rw [gather_at y i R k n hn hi]
  have h1 : IntOp.cmpi .sge (BitVec.ofNat 32 n) 0#32 = 1#1 :=
    (StableHlo.Predicate.sge_iff_toNat (by rw [BitVec.toNat_ofNat]; omega) (by decide)).mpr (by simp)
  have h2 : IntOp.cmpi .sle (BitVec.ofNat 32 n) 99999#32 = 1#1 :=
    (StableHlo.Predicate.sle_ofNat_iff n 99999 (by omega) (by omega)).mpr (by omega)
  have h3 : (Finset.fold IntOp.andi (1#1) (fun x : Fin 1 => IntOp.andi (IntOp.cmpi .sge (i (ix3 R k x)) 0#32)
      (IntOp.cmpi .sle (i (ix3 R k x)) 99999#32)) Finset.univ) = 1#1 := by
    rw [Fin.univ_castSuccEmb]
    simp [hi, h1, h2, IntOp.andi]
  exact if_pos h3

/-- One pair is no better than another: its value is less, or equal with an index that is no less. -/
def NoBetter (p r : EReal × BitVec 32) : Prop := p.1 < r.1 ∨ p.1 = r.1 ∧ r.2.toInt ≤ p.2.toInt

/-- The better of two pairs is one of them and neither is better than it. -/
theorem step_best (a b : EReal × BitVec 32) :
    (reducer_argmax_f32_i32 (F := Ideal) a b = a ∨ reducer_argmax_f32_i32 (F := Ideal) a b = b)
      ∧ NoBetter a (reducer_argmax_f32_i32 (F := Ideal) a b) ∧ NoBetter b (reducer_argmax_f32_i32 (F := Ideal) a b) := by
  obtain ⟨a1, a2⟩ := a
  obtain ⟨b1, b2⟩ := b
  have hr : reducer_argmax_f32_i32 (F := Ideal) (a1, a2) (b1, b2)
      = if b1 < a1 then (a1, a2) else if a1 = b1 ∧ a2.toInt < b2.toInt then (a1, a2) else (b1, b2) := by
    unfold reducer_argmax_f32_i32
    simp only [Idealize.ShloMosaic.Ideal.cmpf_def, Ideal.cmp, IntOp.cmpi, BitVec.slt, Scalar.select, IntOp.ori, IntOp.andi]
    by_cases h1 : b1 < a1
    · simp [h1, h1.ne']
    · by_cases h2 : a1 = b1
      · subst h2
        by_cases h3 : a2.toInt < b2.toInt <;> simp [h3]
      · simp [h1, h2]
  rw [hr]
  unfold NoBetter
  rcases lt_trichotomy a1 b1 with h | h | h
  · simp [h, h.not_gt, h.ne]
  · subst h
    by_cases h2 : a2.toInt < b2.toInt
    · simp [h2, h2.le]
    · simp [h2]; omega
  · simp [h]

/-- No better is transitive. -/
theorem NoBetter.trans {p q r : EReal × BitVec 32} (h1 : NoBetter p q) (h2 : NoBetter q r) : NoBetter p r := by
  unfold NoBetter at *
  rcases h1 with h1 | ⟨h1, h1'⟩ <;> rcases h2 with h2 | ⟨h2, h2'⟩
  · exact .inl (h1.trans h2)
  · exact .inl (h2 ▸ h1)
  · exact .inl (h1 ▸ h2)
  · exact .inr ⟨h1.trans h2, h2'.trans h1'⟩

/-- The best of a list of pairs and a first pair is one of them and none of them is better. -/
theorem fold_best (L : List (EReal × BitVec 32)) (i : EReal × BitVec 32) :
    (L.foldl (reducer_argmax_f32_i32 (F := Ideal)) i = i ∨ L.foldl (reducer_argmax_f32_i32 (F := Ideal)) i ∈ L)
      ∧ NoBetter i (L.foldl (reducer_argmax_f32_i32 (F := Ideal)) i)
      ∧ ∀ p ∈ L, NoBetter p (L.foldl (reducer_argmax_f32_i32 (F := Ideal)) i) := by
  induction L generalizing i with
  | nil => exact ⟨.inl rfl, .inr ⟨rfl, le_refl _⟩, by simp⟩
  | cons b L ih =>
    obtain ⟨h1, h2, h3⟩ := ih (reducer_argmax_f32_i32 (F := Ideal) i b)
    obtain ⟨s1, s2, s3⟩ := step_best i b
    rw [List.foldl_cons]
    refine ⟨?_, s2.trans h2, ?_⟩
    · rcases h1 with h1 | h1
      · rcases s1 with s1 | s1
        · exact .inl (h1.trans s1)
        · exact .inr (by rw [h1, s1]; exact List.mem_cons_self)
      · exact .inr (List.mem_cons_of_mem _ h1)
    · intro p hp
      rcases List.mem_cons.mp hp with rfl | hp
      · exact s3.trans h2
      · exact h3 p hp

/-- The class picked is the first with the largest entry. -/
theorem argmax_at (p : FVec Ideal S1024x10 .f32) (R : Fin 1024) (K : ℕ → ℝ)
    (hK : ∀ a : Fin 10, p (ix2 R a) = ((K a.val : ℝ) : EReal)) (a : ℕ) (ha : a < 10)
    (hle : ∀ c, c < 10 → K c ≤ K a) (hlt : ∀ c, c < a → K c < K a) :
    Run.argmax p (ix1 R) = BitVec.ofNat 32 a := by
  unfold Run.argmax
  rw [Idealize.ShloMosaic.Ideal.argReduce_eq_reduce2, Host.reduce2_eq_foldl_fiber]
  have hinit : constant (F := Ideal) S_ .f32 0xFF800000#32 (Shape.Idx.first h_S_) = (⊥ : EReal) := by
    show Ideal.ofBits .f32 0xFF800000#32 = _
    simp [Ideal.ofBits, Ideal.ieee]
  have hdrop : ∀ (R' : Fin 1024) (c : Fin 10), reducesTo_S1024x10_S1024_d1.drop (ix2 R' c) = ix1 R' := by
    intro R' c
    funext z
    have hz : z = 0 := Subsingleton.elim _ _
    subst hz
    exact Fin.ext (Shape.ReducesTo.drop_apply_val_of_eq reducesTo_S1024x10_S1024_d1 (ix2 R' c) 0 0)
  have hmem : ∀ q : EReal × BitVec 32, q ∈ Host.argReduceFiber p (iotaInDim S1024x10 32 1) reducesTo_S1024x10_S1024_d1 (ix1 R)
      ↔ ∃ c : Fin 10, q = (((K c.val : ℝ) : EReal), BitVec.ofNat 32 c.val) := by
    intro q
    unfold Host.argReduceFiber
    simp only [List.mem_map, List.mem_filter, List.mem_finRange, true_and, decide_eq_true_eq]
    constructor
    · rintro ⟨n, hn, rfl⟩
      generalize S1024x10.rowMajor.symm n = j at *
      obtain ⟨R', c, rfl⟩ : ∃ R' c, j = ix2 R' c := ⟨_, _, eq_ix2 j⟩
      have : R' = R := by
        rw [hdrop] at hn
        exact congrFun hn 0
      subst this
      exact ⟨c, by rw [← hK c]; rfl⟩
    · rintro ⟨c, rfl⟩
      refine ⟨S1024x10.rowMajor (ix2 R c), ?_, ?_⟩
      · rw [Equiv.symm_apply_apply]
        exact hdrop R c
      · rw [Equiv.symm_apply_apply, ← hK c]; rfl
  obtain ⟨h1, h2, h3⟩ := fold_best (Host.argReduceFiber p (iotaInDim S1024x10 32 1) reducesTo_S1024x10_S1024_d1 (ix1 R))
    (constant (F := Ideal) S_ .f32 0xFF800000#32 (Shape.Idx.first h_S_), constantI S_ 32 0#32 (Shape.Idx.first h_S_))
  have hbest := h3 _ ((hmem _).mpr ⟨⟨a, ha⟩, rfl⟩)
  have hint : ∀ c : ℕ, c < 10 → (BitVec.ofNat 32 c).toInt = c := fun c hc => StableHlo.Predicate.toInt_ofNat_small c (by omega)
  generalize (Host.argReduceFiber p (iotaInDim S1024x10 32 1) reducesTo_S1024x10_S1024_d1 (ix1 R)).foldl _ _ = r at *
  have hin : ∃ c : Fin 10, r = (((K c.val : ℝ) : EReal), BitVec.ofNat 32 c.val) := by
    rcases h1 with h1 | h1
    · exfalso
      rw [h1, hinit] at hbest
      rcases hbest with hb | ⟨hb, _⟩
      · exact absurd hb (by simp)
      · exact absurd hb (by simp)
    · exact (hmem _).mp h1
  obtain ⟨c, hc⟩ := hin
  refine (congrArg Prod.snd hc).trans ?_
  rw [hc] at hbest
  have hcl := c.isLt
  rcases hbest with hb | ⟨hb, hb'⟩
  · have hb2 : K a < K c.val := EReal.coe_lt_coe_iff.mp hb
    exact absurd hb2 (not_lt.mpr (hle c.val hcl))
  · have hb2 : K a = K c.val := EReal.coe_eq_coe_iff.mp hb
    have hb3 : (BitVec.ofNat 32 c.val).toInt ≤ (BitVec.ofNat 32 a).toInt := hb'
    rw [hint _ hcl, hint _ ha] at hb3
    rcases Nat.lt_or_ge c.val a with hca | hca
    · exact absurd hb2 (hlt c.val hca).ne'
    · show BitVec.ofNat 32 c.val = _
      congr 1
      omega

end Cert.ReferenceIdeal.Value

end
-- ==== Proof.Math.Reals.lean ====
/- Finite extended reals: sums, bounds, and the integer of a small whole number. -/
module

public import Idealize.ShloMosaic.PureOps.Ideal
public import Mathlib.Data.EReal.Operations

@[expose] public section

noncomputable section

namespace Cert.Reals

open Idealize.ShloMosaic

/-- A finite sum of reals is the same sum among the extended reals. -/
theorem coe_sum {ι : Type} (s : Finset ι) (f : ι → ℝ) : (((∑ k ∈ s, f k : ℝ)) : EReal) = ∑ k ∈ s, ((f k : ℝ) : EReal) := by
  classical
  induction s using Finset.induction_on with
  | empty => simp
  | insert a s ha ih => rw [Finset.sum_insert ha, Finset.sum_insert ha, EReal.coe_add, ih]

/-- An extended real whose absolute value is at most a real is a real within it. -/
theorem real_of_abs_le (a : EReal) (b : ℝ) (h : max a (-a) ≤ (b : EReal)) : ∃ r : ℝ, a = (r : EReal) ∧ |r| ≤ b := by
  induction a using EReal.rec with
  | bot => simp at h
  | top => simp at h
  | coe r =>
    refine ⟨r, rfl, ?_⟩
    have h1 : ((r : ℝ) : EReal) ≤ b := le_trans (le_max_left _ _) h
    have h2 : ((-r : ℝ) : EReal) ≤ b := by rw [EReal.coe_neg]; exact le_trans (le_max_right _ _) h
    exact abs_le'.mpr ⟨EReal.coe_le_coe_iff.mp h1, EReal.coe_le_coe_iff.mp h2⟩

/-- A small whole number as a 32-bit integer. -/
theorem int_of_nat (a : ℕ) (ha : a < 10) : Ideal.fptosi 32 ((a : ℝ) : EReal) = BitVec.ofNat 32 a := by
  unfold Ideal.fptosi
  rw [Ideal.toIntClamped_coe, if_pos (Nat.cast_nonneg a), Int.floor_natCast]
  have e : max (-((2 ^ (32 - 1) : ℕ) : ℤ)) (min (((2 ^ (32 - 1) : ℕ) : ℤ) - 1) (a : ℤ)) = (a : ℤ) := by
    norm_num
    omega
  rw [e]
  exact BitVec.ofInt_natCast 32 a

/-- Every coordinate within 333, a point's part of a squared distance is below that of a point all of whose coordinates are a thousand. -/
theorem near_lt_far (x t : Fin 16 → ℝ) (hx : ∀ k, |x k| ≤ 333) (ht : ∀ k, |t k| ≤ 333) :
    (∑ k, t k * t k - 2 * ∑ k, x k * t k) < ∑ _k : Fin 16, (1000 : ℝ) * 1000 - 2 * ∑ k, x k * 1000 := by
  rw [Finset.mul_sum, Finset.mul_sum, ← Finset.sum_sub_distrib, ← Finset.sum_sub_distrib]
  refine Finset.sum_lt_sum_of_nonempty ⟨0, Finset.mem_univ _⟩ fun k _ => ?_
  have h1 := abs_le.mp (hx k)
  have h2 := abs_le.mp (ht k)
  nlinarith [mul_nonneg (sub_nonneg.mpr h1.2) (sub_nonneg.mpr h2.2), mul_nonneg (sub_nonneg.mpr h1.1) (sub_nonneg.mpr h2.1),
    mul_nonneg (sub_nonneg.mpr h1.2) (sub_nonneg.mpr h2.1), mul_nonneg (sub_nonneg.mpr h1.1) (sub_nonneg.mpr h2.2),
    mul_nonneg (sub_nonneg.mpr h2.2) (sub_nonneg.mpr h2.1)]

end Cert.Reals

end
-- ==== Proof.Reference.Given.lean ====
/- What the precondition says: every coordinate is a real within 333, every label is a class, and every query's fifteenth
   nearest training point is strictly nearer than its sixteenth. -/
module

public import proofs.«01_k».proof.Proof.Reference.Reads
public import proofs.«01_k».proof.Proof.Math.Reals
public import proofs.«01_k».proof.Pre_well_posed

@[expose] public section

set_option maxRecDepth 16384

noncomputable section

namespace Cert.ReferenceIdeal.Value

open Idealize.ShloMosaic Idealize.ShloMosaic.Pointwise
open Cert.ReferenceIdeal Cert.ReferenceIdeal.Facts₀ Cert.ReferenceIdeal.Facts

variable [hR : Cert.ReferenceIdeal.Facts] [hP : Cert.Pre_well_posed.Facts]

/-- The pattern of 333. -/
theorem ofBits_bound : FloatOps.ofBits (F := Ideal) .f32 0x43A68000#32 = ((333 : ℝ) : EReal) := by
  show Ideal.ofBits .f32 0x43A68000#32 = _
  simp [Ideal.ofBits, Ideal.ieee, -EReal.coe_mul]
  norm_num

/-- A column of sixteen read as a vector. -/
theorem column_at (v : FVec Ideal S1024x16 .f32) (R : Fin 1024) :
    shapeCast Cert.Pre_well_posed.S1024 (extractStridedSlice Cert.Pre_well_posed.S1024x1 ![0, 14] v Cert.Pre_well_posed.Facts.slices_S1024x16_S1024x1_0_14) Cert.Pre_well_posed.Facts.shapeCasts_S1024x1_S1024 (ix1 R) = v (ix2 R 14)
    ∧ shapeCast Cert.Pre_well_posed.S1024 (extractStridedSlice Cert.Pre_well_posed.S1024x1 ![0, 15] v Cert.Pre_well_posed.Facts.slices_S1024x16_S1024x1_0_15) Cert.Pre_well_posed.Facts.shapeCasts_S1024x1_S1024 (ix1 R) = v (ix2 R 15) := by
  constructor <;> pointwise

variable (x : FVec Ideal S1024x16 .f32) (tx : FVec Ideal S100000x16 .f32) (y : IVec S100000 32)

/-- The fifteenth nearest point is strictly nearer than the sixteenth. -/
theorem gap_of (h : (Cert.Pre_well_posed.fn (F := Ideal) x tx y).1 = fun _ => 1#1) (R : Fin 1024) :
    (Run.dist x tx (ix2 R (src (Run.dist x tx) R 14)) : EReal) < Run.dist x tx (ix2 R (src (Run.dist x tx) R 15)) := by
  have h0 := congrFun h (ix1 R)
  have h1 : FloatOps.cmpf (F := Ideal) (φ := .f32) .ogt
      (shapeCast Cert.Pre_well_posed.S1024 (extractStridedSlice Cert.Pre_well_posed.S1024x1 ![0, 14]
        (Host.topK S1024x16 1 (FloatOps.cmpfTotal (F := Ideal) (φ := .f32) .gt) (Host.negf (Run.dist x tx)) Cert.Pre_well_posed.Facts.sliceFits_S1024x100000_S1024x16).1
        Cert.Pre_well_posed.Facts.slices_S1024x16_S1024x1_0_14) Cert.Pre_well_posed.Facts.shapeCasts_S1024x1_S1024 (ix1 R))
      (shapeCast Cert.Pre_well_posed.S1024 (extractStridedSlice Cert.Pre_well_posed.S1024x1 ![0, 15]
        (Host.topK S1024x16 1 (FloatOps.cmpfTotal (F := Ideal) (φ := .f32) .gt) (Host.negf (Run.dist x tx)) Cert.Pre_well_posed.Facts.sliceFits_S1024x100000_S1024x16).1
        Cert.Pre_well_posed.Facts.slices_S1024x16_S1024x1_0_15) Cert.Pre_well_posed.Facts.shapeCasts_S1024x1_S1024 (ix1 R)) = 1#1 := h0
  rw [(column_at _ R).1, (column_at _ R).2, (topK_row (Run.dist x tx) 16 (by omega) _ R 14).1,
    (topK_row (Run.dist x tx) 16 (by omega) _ R 15).1] at h1
  have h2 : BitVec.ofBool (decide (-(Run.dist x tx (ix2 R (src (Run.dist x tx) R 15)) : EReal) < -(Run.dist x tx (ix2 R (src (Run.dist x tx) R 14)) : EReal))) = 1#1 := h1
  exact EReal.neg_lt_neg_iff.mp (of_decide_eq_true ((StableHlo.Predicate.ofBool_eq_one_iff _).mp h2))

/-- Every query coordinate is a real within 333. -/
theorem query_of (h : (Cert.Pre_well_posed.fn (F := Ideal) x tx y).2.1 = fun _ => 1#1) (R : Fin 1024) (k : Fin 16) :
    ∃ r : ℝ, x (ix2 R k) = ((r : ℝ) : EReal) ∧ |r| ≤ 333 := by
  refine Cert.Reals.real_of_abs_le _ _ ?_
  rw [← ofBits_bound]
  exact of_decide_eq_true ((StableHlo.Predicate.ofBool_eq_one_iff _).mp (congrFun h (ix2 R k)))

/-- Every training coordinate is a real within 333. -/
theorem point_of (h : (Cert.Pre_well_posed.fn (F := Ideal) x tx y).2.2.1 = fun _ => 1#1) (p : Fin 100000) (k : Fin 16) :
    ∃ r : ℝ, tx (ix2 p k) = ((r : ℝ) : EReal) ∧ |r| ≤ 333 := by
  refine Cert.Reals.real_of_abs_le _ _ ?_
  rw [← ofBits_bound]
  exact of_decide_eq_true ((StableHlo.Predicate.ofBool_eq_one_iff _).mp (congrFun h (ix2 p k)))

/-- Every label is a class. -/
theorem label_of (h1 : (Cert.Pre_well_posed.fn (F := Ideal) x tx y).2.2.2.1 = fun _ => 1#1)
    (h2 : (Cert.Pre_well_posed.fn (F := Ideal) x tx y).2.2.2.2 = fun _ => 1#1) (p : Fin 100000) : (y (ix1 p)).toNat < 10 := by
  have e1 : IntOp.cmpi .sge (y (ix1 p)) 0#32 = 1#1 := congrFun h1 (ix1 p)
  have e2 : IntOp.cmpi .slt (y (ix1 p)) 10#32 = 1#1 := congrFun h2 (ix1 p)
  have e3 : (0#32).toInt ≤ (y (ix1 p)).toInt := by
    have := (StableHlo.Predicate.ofBool_eq_one_iff _).mp e1
    simpa [BitVec.sle] using this
  have e4 : (y (ix1 p)).toInt < (10#32).toInt := by
    have := (StableHlo.Predicate.ofBool_eq_one_iff _).mp e2
    simpa [BitVec.slt] using this
  have e5 : (0#32).toInt = 0 := by decide
  have e6 : (10#32).toInt = 10 := by decide
  rw [e5] at e3
  rw [e6] at e4
  have := (y (ix1 p)).isLt
  rw [BitVec.toInt_eq_toNat_cond] at e3 e4
  split at e3 <;> omega

end Cert.ReferenceIdeal.Value

end
-- ==== Proof.Agree.lean ====
/- The two programs' results agree: the kernel's rows of nearest points count the labels the reference counts. -/
module

public import proofs.«01_k».proof.Proof.KernelIdeal.Value
public import proofs.«01_k».proof.Proof.Reference.Given

@[expose] public section

set_option maxRecDepth 16384

noncomputable section

namespace Cert.Agree

open Idealize.ShloMosaic Idealize.ShloMosaic.TcCoe Idealize.ShloMosaic.Pointwise
open Cert.ReferenceIdeal Cert.ReferenceIdeal.Value Cert.Select Cert.Reals
open Cert.KernelIdeal.Run (padded label code outP outY)

variable [hR : Cert.ReferenceIdeal.Facts] [hP : Cert.Pre_well_posed.Facts]

/-- The precondition on the three arguments. -/
def Given (x : FVec Ideal S1024x16 .f32) (tx : FVec Ideal S100000x16 .f32) (y : IVec S100000 32) : Prop :=
  (Cert.Pre_well_posed.fn (F := Ideal) x tx y).1 = (fun _ => 1#1)
    ∧ (Cert.Pre_well_posed.fn (F := Ideal) x tx y).2.1 = (fun _ => 1#1)
    ∧ (Cert.Pre_well_posed.fn (F := Ideal) x tx y).2.2.1 = (fun _ => 1#1)
    ∧ (Cert.Pre_well_posed.fn (F := Ideal) x tx y).2.2.2.1 = (fun _ => 1#1)
    ∧ (Cert.Pre_well_posed.fn (F := Ideal) x tx y).2.2.2.2 = (fun _ => 1#1)

variable (x : FVec Ideal S1024x16 .f32) (tx : FVec Ideal S100000x16 .f32) (y : IVec S100000 32)

/-- Fifteen training points are query `R`'s nearest: the reference's indices name them, they differ, and with a gap after the
    fifteenth distance each is strictly nearer than every other point. -/
structure Nearest (R : Fin 1024) (τ : Fin 15 → Fin 100000) : Prop where
  idx : ∀ k, Run.idx x tx (ix2 R k) = BitVec.ofNat 32 (τ k).val
  inj : Function.Injective τ
  lt : (Run.dist x tx (ix2 R (src (Run.dist x tx) R 14)) : EReal) < Run.dist x tx (ix2 R (src (Run.dist x tx) R 15)) →
    ∀ k p, (∀ k', τ k' ≠ p) → (Run.dist x tx (ix2 R (τ k)) : EReal) < Run.dist x tx (ix2 R p)

/-- The reference's indices of the nearest points. -/
theorem idx_at (R : Fin 1024) (k : Fin 15) (h : 15 ≤ 100000) :
    Run.idx x tx (ix2 R k) = BitVec.ofNat 32 (srcOf (Run.dist x tx) R (k.castLE h)).val := by
  unfold Run.idx
  exact (topK_row (Run.dist x tx) 15 h _ R k).2

/-- Every query has its fifteen nearest points. -/
theorem exists_nearest (R : Fin 1024) : ∃ τ, Nearest x tx R τ := by
  have h : 15 ≤ 100000 := by omega
  obtain ⟨s, hs⟩ : ∃ s : Fin 100000 → Fin 100000, s = src (Run.dist x tx) R := ⟨_, rfl⟩
  refine ⟨fun k => s (k.castLE h), fun k => ?_, fun k k' e => ?_, fun hgap k p hp => ?_⟩
  · rw [idx_at x tx R k h, hs]
  · subst hs
    exact Fin.castLE_injective _ (src_injective (Run.dist x tx) R e)
  · subst hs
    exact src_nearest (Run.dist x tx) R hgap k p hp

variable (R : Fin 1024) (τ : Fin 15 → Fin 100000)

/-- How many of fifteen training points have label `a`. -/
def count (a : ℕ) : ℕ := (Finset.univ.filter fun k : Fin 15 => label y (τ k).val = a).card

/-- The label the reference takes for the `k`-th nearest point. -/
theorem taken_at (hτ : Nearest x tx R τ) (k : Fin 15) : Run.take y (Run.wrap (Run.idx x tx)) (ix2 R k) = y (ix1 (τ k)) :=
  take_at y _ R k _ (τ k).isLt (wrap_at _ R k _ (τ k).isLt (hτ.idx k))

/-- The reference's probability of class `a` is the count over fifteen. -/
theorem probs_at (hτ : Nearest x tx R τ) (hy : ∀ p, (y (ix1 p)).toNat < 10) (a : Fin 10) :
    Run.probs x tx y (ix2 R a) = (((count y τ a.val : ℝ) * (1 / 15) : ℝ) : EReal) := by
  unfold Run.probs
  rw [mean_at]
  have e : ∀ k : Fin 15, Run.oneHot (F := Ideal) (Run.take y (Run.wrap (Run.idx x tx))) (ix3 R k a)
      = (((if label y (τ k).val = a.val then 1 else 0 : ℝ)) : EReal) := by
    intro k
    rw [oneHot_at, taken_at x tx y R τ hτ]
    have hl : label y (τ k).val = (y (ix1 (τ k))).toNat := dif_pos (τ k).isLt
    rw [hl]
    have ha := a.isLt
    by_cases h : y (ix1 (τ k)) = BitVec.ofNat 32 a.val
    · rw [if_pos h, if_pos (by rw [h, BitVec.toNat_ofNat]; omega)]; rfl
    · rw [if_neg h, if_neg (fun h' => h (BitVec.eq_of_toNat_eq (by rw [h', BitVec.toNat_ofNat]; omega)))]; rfl
  rw [Finset.sum_congr rfl (fun k _ => e k), ← coe_sum, ← EReal.coe_div, Finset.sum_boole]
  unfold count
  congr 1
  ring

/-- The reference's prediction is the first class with the most labels. -/
theorem preds_at (hτ : Nearest x tx R τ) (hy : ∀ p, (y (ix1 p)).toNat < 10) (a : ℕ) (ha : a < 10)
    (hle : ∀ c, c < 10 → count y τ c ≤ count y τ a) (hlt : ∀ c, c < a → count y τ c < count y τ a) :
    Run.preds x tx y (ix1 R) = BitVec.ofNat 32 a := by
  refine argmax_at _ R (fun c => (count y τ c : ℝ) * (1 / 15)) (fun c => probs_at x tx y R τ hτ hy c) a ha ?_ ?_
  · intro c hc
    have : (count y τ c : ℝ) ≤ count y τ a := by exact_mod_cast hle c hc
    show (count y τ c : ℝ) * (1 / 15) ≤ (count y τ a : ℝ) * (1 / 15)
    linarith
  · intro c hc
    have : (count y τ c : ℝ) < count y τ a := by exact_mod_cast hlt c hc
    show (count y τ c : ℝ) * (1 / 15) < (count y τ a : ℝ) * (1 / 15)
    linarith

/-- The kernel's distances, as reals. -/
theorem real_dist (xr : Fin 1024 → Fin 16 → ℝ) (tr : Fin 100000 → Fin 16 → ℝ) (hx : ∀ R k, x (ix2 R k) = ((xr R k : ℝ) : EReal))
    (ht : ∀ p k, tx (ix2 p k) = ((tr p k : ℝ) : EReal)) (R : Fin 1024) (p : ℕ) :
    Cert.KernelIdeal.Run.dist x tx R p
      = ((((if h : p < 100000 then ∑ k, tr ⟨p, h⟩ k * tr ⟨p, h⟩ k - 2 * ∑ k, xr R k * tr ⟨p, h⟩ k
          else ∑ _k : Fin 16, (1000 : ℝ) * 1000 - 2 * ∑ k, xr R k * 1000) : ℝ)) : EReal) := by
  unfold Cert.KernelIdeal.Run.dist padded
  by_cases h : p < 100000
  · simp only [dif_pos h, hx, ht]
    rw [EReal.coe_sub, EReal.coe_mul, coe_sum, coe_sum]
    simp only [EReal.coe_mul]
  · simp only [dif_neg h, hx]
    rw [EReal.coe_sub, EReal.coe_mul, coe_sum, coe_sum]
    simp only [EReal.coe_mul]

/-- The reference's distances, as reals. -/
theorem real_ref (xr : Fin 1024 → Fin 16 → ℝ) (tr : Fin 100000 → Fin 16 → ℝ) (hx : ∀ R k, x (ix2 R k) = ((xr R k : ℝ) : EReal))
    (ht : ∀ p k, tx (ix2 p k) = ((tr p k : ℝ) : EReal)) (R : Fin 1024) (p : Fin 100000) :
    Run.dist x tx (ix2 R p)
      = (((∑ k, xr R k * xr R k + (∑ k, tr p k * tr p k - 2 * ∑ k, xr R k * tr p k) : ℝ)) : EReal) := by
  rw [dist_at]
  simp only [hx, ht]
  rw [show (∑ k, xr R k * xr R k + (∑ k, tr p k * tr p k - 2 * ∑ k, xr R k * tr p k) : ℝ)
    = (∑ k, xr R k * xr R k - 2 * ∑ k, xr R k * tr p k) + ∑ k, tr p k * tr p k by ring]
  rw [EReal.coe_add, EReal.coe_sub, EReal.coe_mul, coe_sum, coe_sum, coe_sum]
  simp only [EReal.coe_mul]

/-- The fifteen nearest points are strictly nearer than every other, in the kernel's distances. -/
theorem nearest (h : Given x tx y) (hτ : Nearest x tx R τ) (k : Fin 15) (p : ℕ) (hp : ∀ k', (τ k').val ≠ p) :
    Cert.KernelIdeal.Run.dist x tx R (τ k).val < Cert.KernelIdeal.Run.dist x tx R p := by
  choose xr hx hxb using query_of x tx y h.2.1
  choose tr ht htb using point_of x tx y h.2.2.1
  rw [real_dist x tx xr tr hx ht, real_dist x tx xr tr hx ht, EReal.coe_lt_coe_iff, dif_pos (τ k).isLt]
  by_cases hlt : p < 100000
  · rw [dif_pos hlt]
    have hn := hτ.lt (gap_of x tx y h.1 R) k ⟨p, hlt⟩ (fun k' e => hp k' (congrArg Fin.val e))
    rw [real_ref x tx xr tr hx ht, real_ref x tx xr tr hx ht, EReal.coe_lt_coe_iff] at hn
    exact lt_of_add_lt_add_left hn
  · rw [dif_neg hlt]
    exact near_lt_far _ _ (hxb R) (htb _)

/-- What a row of nearest points gives is the reference's probabilities and prediction. -/
theorem agree (h : Given x tx y) (rd rc : Fin 16 → EReal)
    (hb : Between (Cert.KernelIdeal.Run.dist x tx R) (code y) 100352 rd rc) :
    (∀ s : Fin 16, outP rd rc s = if hs : s.val < 10 then Run.probs x tx y (ix2 R ⟨s.val, hs⟩) else (0 : EReal))
      ∧ outY rd rc = Run.preds x tx y (ix1 R) := by
  have hy := label_of x tx y h.2.2.2.1 h.2.2.2.2
  obtain ⟨σ, hσ⟩ := hb
  choose xr hx hxb using query_of x tx y h.2.1
  choose tr ht htb using point_of x tx y h.2.2.1
  have hfin : ∀ p : ℕ, p < 100352 → Cert.KernelIdeal.Run.dist x tx R p ≠ ⊤ ∧ Cert.KernelIdeal.Run.dist x tx R p ≠ ⊥ := by
    intro p _
    rw [real_dist x tx xr tr hx ht]
    exact ⟨EReal.coe_ne_top _, EReal.coe_ne_bot _⟩
  obtain ⟨τ, hτ⟩ := exists_nearest x tx R
  have hinj : Function.Injective (fun k => (τ k).val) := fun k k' e => hτ.inj (Fin.ext e)
  have hlt : ∀ k, (fun k => (τ k).val) k < 100352 := fun k => lt_trans (τ k).isLt (by omega)
  obtain ⟨e, he⟩ := held_of_nearest _ _ _ rd rc σ hσ (fun p hp => (hfin p hp).1) (fun k => (τ k).val) hinj hlt
    (fun k p _ hp => nearest x tx y R τ h hτ k p hp)
  have hlab : ∀ p, label y p < 10 := by
    intro p
    unfold label
    by_cases hp : p < 100000
    · rw [dif_pos hp]; exact hy ⟨p, hp⟩
    · rw [dif_neg hp]; omega
  have hv : ∀ a : ℕ, votes rd rc ((a : ℝ) : EReal) = ((count y τ a : ℝ) : EReal) := fun a =>
    votes_eq _ _ _ rd rc σ hσ hfin (label y) (fun p _ => labelOf_code _ _ (by have := hlab p; omega)) (fun k => (τ k).val) hlt e he a
  constructor
  · intro s
    unfold outP
    by_cases hs : s.val < 10
    · rw [if_pos hs, dif_pos hs, hv, probs_at x tx y R τ hτ hy, EReal.coe_mul]
    · rw [if_neg hs, dif_neg hs]
  · obtain ⟨a, ha, hva, hle, hlt'⟩ := vote_spec (count y τ) 10 (by omega)
    rw [preds_at x tx y R τ hτ hy a ha hle hlt']
    unfold outY
    rw [show (fun c : ℕ => votes rd rc ((c : ℝ) : EReal)) = fun c => ((count y τ c : ℝ) : EReal) from funext hv, hva]
    exact int_of_nat a ha

end Cert.Agree

end
-- ==== Proof.lean ====
/- The certificate: the three frames, the preservation of the idealized program, and the algebraic claim of the
   two idealized programs, assembled from the modules under Proof/. -/
module

public import proofs.«01_k».proof.Defs
public import proofs.«01_k».proof.Proof.Kernel.Frame
public import proofs.«01_k».proof.Proof.KernelIdeal.Frame
public import proofs.«01_k».proof.Proof.Reference.Run
public import proofs.«01_k».proof.Proof.Agree
public import proofs.«01_k».proof.Proof.Gen.Pre_well_posed
public import Idealize.ShloMosaic.Adequacy
public import Idealize.ShloMosaic.Init

@[expose] public section

noncomputable section

namespace Cert.Proof

open Idealize.ShloMosaic Idealize.SL.Sem Cert.Kernel

/-- The constant the kernel multiplies the counts by stands for the exact 1/15 in the idealized program. -/
theorem preserves : Cert.preserves_Kernel_KernelIdeal :=
  IdealRules.named_const.statement Cert.KernelIdeal.κ "inv_k" .f32 0x3D888889#32 ((1 / 15 : ℝ) : EReal) rfl

section Algebraic

open Idealize.ShloMosaic.Pointwise

attribute [local instance] Cert.KernelIdeal.Gen.facts Cert.ReferenceIdeal.Gen.facts Cert.Pre_well_posed.Gen.facts

/-- The two idealized programs end with the same predictions and probabilities. -/
theorem algebraic : Cert.algebraic_KernelIdeal_ReferenceIdeal_pre_well_posed := by
  intro m g m' g' hpre hargs
  have hgiven : ∀ c : Dev Cert.KernelIdeal.nD,
      Cert.Agree.Given (Cert.KernelIdeal.Run.argX m c) (Cert.KernelIdeal.Run.argT m c) (Cert.KernelIdeal.Run.argY m c) := hpre
  have htar : Cert.KernelIdeal.Run.Target m
      (fun c j => if hs : (j 1).val < 10 then Cert.ReferenceIdeal.Run.probs (F := Ideal) (Cert.KernelIdeal.Run.argX m c) (Cert.KernelIdeal.Run.argT m c)
        (Cert.KernelIdeal.Run.argY m c) (ix2 (j 0) ⟨(j 1).val, hs⟩) else (0 : EReal))
      (fun c j => Cert.ReferenceIdeal.Run.preds (F := Ideal) (Cert.KernelIdeal.Run.argX m c) (Cert.KernelIdeal.Run.argT m c) (Cert.KernelIdeal.Run.argY m c)
        (ix1 (j 0))) := fun c R rd rc hb =>
    Cert.Agree.agree _ _ _ R (hgiven c) rd rc hb
  refine ⟨fun c => Cert.ReferenceIdeal.Run.preds (F := Ideal) (Cert.KernelIdeal.Run.argX m c) (Cert.KernelIdeal.Run.argT m c) (Cert.KernelIdeal.Run.argY m c),
    fun c => Cert.ReferenceIdeal.Run.probs (F := Ideal) (Cert.KernelIdeal.Run.argX m c) (Cert.KernelIdeal.Run.argT m c) (Cert.KernelIdeal.Run.argY m c), ?_, ?_⟩
  · refine (θ_run _ _ _).mono (fun r h c => ?_)
      (Cert.KernelIdeal.Run.value m g _ _ htar fun c p => Cert.ReferenceIdeal.Value.label_of _ _ _ (hgiven c).2.2.2.1 (hgiven c).2.2.2.2 p)
    obtain ⟨h1, h2, h3⟩ := h c
    refine ⟨?_, ?_, h3⟩
    · funext j
      rw [eq_ix1 j]
      exact h1 _
    · funext j
      rw [eq_ix2 j]
      refine (h2 _ _).trans ?_
      exact dif_pos (j 1).isLt
  · refine (θ_run _ _ _).mono (fun r h c => ?_) (Cert.ReferenceIdeal.Run.run m' g')
    obtain ⟨h1, h2, h3⟩ := h c
    obtain ⟨e0, e1, e2⟩ := hargs c
    refine ⟨h1.trans ?_, h2.trans ?_, h3⟩
    · rw [e0, e1, e2]
    · rw [e0, e1, e2]

end Algebraic

/-- Every claim of the certificate. -/
theorem claim : Cert.Claim := ⟨Cert.Kernel.Gen.facts, Cert.KernelIdeal.Gen.facts, Cert.ReferenceIdeal.Gen.facts, Cert.Pre_well_posed.Gen.facts,
  fun m ρ _ => Cert.Kernel.Run.frame m ρ, fun m ρ _ => Cert.KernelIdeal.Run.frame m ρ, fun m ρ _ => Cert.KernelIdeal.Run.frame m ρ,
  fun m ρ _ => Cert.ReferenceIdeal.Run.frame m ρ, fun m ρ _ => Cert.ReferenceIdeal.Run.frame m ρ, preserves, algebraic⟩

end Cert.Proof

end
